-- ==== Defs.lean ====
def Pre_Whole (m : (ℓ : Loc Cert.Whole.nD Cert.Whole.τ Cert.Whole.sig) → Buf (Elt Bits) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseReference (m : (ℓ : Loc Cert.QuantiseReference.nD Cert.QuantiseReference.τ Cert.QuantiseReference.sig) → Buf (Elt Bits) ℓ) : Prop :=
  True

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2)
      ∧ r.2.mem ((c.tc : Thread Cert.Whole.nD Cert.Whole.τ).loc Cert.Whole.main_arg3) = m ((c.tc : Thread Cert.Whole.nD Cert.Whole.τ).loc Cert.Whole.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseReference [hQuantiseReference : Cert.QuantiseReference.Facts] : Prop :=
  ∀ (m : (ℓ : Loc Cert.QuantiseReference.nD Cert.QuantiseReference.τ Cert.QuantiseReference.sig) → Buf (Elt Bits) ℓ) (g : Dev Cert.QuantiseReference.nD → PrngReg), Pre_QuantiseReference m →
    θ_run (Cert.QuantiseReference.defs (F := Bits)) (onTc (τ := Cert.QuantiseReference.τ) (Cert.QuantiseReference.main (F := Bits))) ⟨m, fun _ => 0, g⟩ (fun r => (∀ c : Dev Cert.QuantiseReference.nD,
      r.2.mem ((c.tc : Thread Cert.QuantiseReference.nD Cert.QuantiseReference.τ).loc Cert.QuantiseReference.main_arg0) = m ((c.tc : Thread Cert.QuantiseReference.nD Cert.QuantiseReference.τ).loc Cert.QuantiseReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Quantise_QuantiseReference [hQuantise : Cert.Quantise.Facts] [hQuantiseReference : Cert.QuantiseReference.Facts] : Prop :=
  ∀ (m : (ℓ : Loc Cert.Quantise.nD Cert.Quantise.τ Cert.Quantise.sig) → Buf (Elt Bits) ℓ) (g : Dev Cert.Quantise.nD → PrngReg)
    (m' : (ℓ : Loc Cert.QuantiseReference.nD Cert.QuantiseReference.τ Cert.QuantiseReference.sig) → Buf (Elt Bits) ℓ) (g' : Dev Cert.QuantiseReference.nD → PrngReg), Pre_Quantise m →
    (∀ c : Dev Cert.Quantise.nD,
      m' ((c.tc : Thread Cert.QuantiseReference.nD Cert.QuantiseReference.τ).loc Cert.QuantiseReference.main_arg0) = m ((c.tc : Thread Cert.Quantise.nD Cert.Quantise.τ).loc Cert.Quantise.main_arg0)) →
    ∃ (v0 : (c : Dev Cert.Quantise.nD) → Buf (Elt Bits) ((c.tc : Thread Cert.Quantise.nD Cert.Quantise.τ).loc Cert.Quantise.main_v1_0)) (v1 : (c : Dev Cert.Quantise.nD) → Buf (Elt Bits) ((c.tc : Thread Cert.Quantise.nD Cert.Quantise.τ).loc Cert.Quantise.main_v1_1)),
      θ_run (Cert.Quantise.defs (F := Bits)) (onTc (τ := Cert.Quantise.τ) (Cert.Quantise.main (F := Bits))) ⟨m, fun _ => 0, g⟩ (fun r => ∀ c : Dev Cert.Quantise.nD,
          r.2.mem ((c.tc : Thread Cert.Quantise.nD Cert.Quantise.τ).loc Cert.Quantise.main_v1_0) = v0 c
          ∧ r.2.mem ((c.tc : Thread Cert.Quantise.nD Cert.Quantise.τ).loc Cert.Quantise.main_v1_1) = v1 c
          ∧ r.2.mem ((c.tc : Thread Cert.Quantise.nD Cert.Quantise.τ).loc Cert.Quantise.main_arg0) = m ((c.tc : Thread Cert.Quantise.nD Cert.Quantise.τ).loc Cert.Quantise.main_arg0))
      ∧ θ_run (Cert.QuantiseReference.defs (F := Bits)) (onTc (τ := Cert.QuantiseReference.τ) (Cert.QuantiseReference.main (F := Bits))) ⟨m', fun _ => 0, g'⟩ (fun r => ∀ c : Dev Cert.QuantiseReference.nD,
          r.2.mem ((c.tc : Thread Cert.QuantiseReference.nD Cert.QuantiseReference.τ).loc Cert.QuantiseReference.main_v1_0) = v0 c
          ∧ r.2.mem ((c.tc : Thread Cert.QuantiseReference.nD Cert.QuantiseReference.τ).loc Cert.QuantiseReference.main_v1_1) = v1 c
          ∧ r.2.mem ((c.tc : Thread Cert.QuantiseReference.nD Cert.QuantiseReference.τ).loc Cert.QuantiseReference.main_arg0) = m' ((c.tc : Thread Cert.QuantiseReference.nD Cert.QuantiseReference.τ).loc Cert.QuantiseReference.main_arg0))

def Claim : Prop :=
  ∃ (hWhole : Cert.Whole.Facts) (hKernel : Cert.Kernel.Facts) (hKernelIdeal : Cert.KernelIdeal.Facts) (hReferenceIdeal : Cert.ReferenceIdeal.Facts) (hQuantise : Cert.Quantise.Facts) (hQuantiseReference : Cert.QuantiseReference.Facts),
    quiescent_Whole (hWhole := hWhole)
    ∧ quiescent_Kernel (hKernel := hKernel)
    ∧ quiescent_KernelIdeal (hKernelIdeal := hKernelIdeal)
    ∧ quiescent_ReferenceIdeal (hReferenceIdeal := hReferenceIdeal)
    ∧ quiescent_Quantise (hQuantise := hQuantise)
    ∧ quiescent_QuantiseReference (hQuantiseReference := hQuantiseReference)
    ∧ preserves_Kernel_KernelIdeal
    ∧ algebraic_KernelIdeal_ReferenceIdeal (hKernelIdeal := hKernelIdeal) (hReferenceIdeal := hReferenceIdeal)
    ∧ bitexact_Quantise_QuantiseReference (hQuantise := hQuantise) (hQuantiseReference := hQuantiseReference)
-- ==== Whole.lean ====
abbrev S2x768x7168 : Shape := ⟨3, ![2, 768, 7168]⟩
abbrev S10240x3584 : Shape := ⟨2, ![10240, 3584]⟩
abbrev S10240x56 : Shape := ⟨2, ![10240, 56]⟩
abbrev S10240 : Shape := ⟨1, ![10240]⟩
abbrev S1536x7168 : Shape := ⟨2, ![1536, 7168]⟩
abbrev S1536x1 : Shape := ⟨2, ![1536, 1]⟩
abbrev S128x7168 : Shape := ⟨2, ![128, 7168]⟩
abbrev S128x1 : Shape := ⟨2, ![128, 1]⟩
abbrev S128 : Shape := ⟨1, ![128]⟩
abbrev S1x10240 : Shape := ⟨2, ![1, 10240]⟩
abbrev S1536x10240 : Shape := ⟨2, ![1536, 10240]⟩
abbrev S256x3584 : Shape := ⟨2, ![256, 3584]⟩
abbrev S256x56 : Shape := ⟨2, ![256, 56]⟩
abbrev S1x256 : Shape := ⟨2, ![1, 256]⟩
abbrev S1536x256 : Shape := ⟨2, ![1536, 256]⟩
abbrev S7168x256 : Shape := ⟨2, ![7168, 256]⟩
abbrev S56x256 : Shape := ⟨2, ![56, 256]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S128x128 : Shape := ⟨2, ![128, 128]⟩
abbrev S2x768x10240 : Shape := ⟨3, ![2, 768, 10240]⟩
abbrev S2x768x1 : Shape := ⟨3, ![2, 768, 1]⟩

abbrev nBuf : Space → Nat
  | .hbm => 12
  | .vmem => 18
  | .smem => 0
  | _ => 0

abbrev bufTy : (tb : Table) → Fin (tcTables nBuf tb) → BufTy
  | .hbm, ⟨0, _⟩ => ⟨S2x768x7168, .bf16⟩
  | .hbm, ⟨1, _⟩ => ⟨S10240x3584, .i8⟩
  | .hbm, ⟨2, _⟩ => ⟨S10240x56, .f32⟩
  | .hbm, ⟨3, _⟩ => ⟨S10240, .f32⟩
  | .hbm, ⟨4, _⟩ => ⟨S1536x7168, .bf16⟩
  | .hbm, ⟨5, _⟩ => ⟨S1536x7168, .fp8e4m3⟩
  | .hbm, ⟨6, _⟩ => ⟨S1536x1, .f32⟩
  | .hbm, ⟨7, _⟩ => ⟨S1x10240, .f32⟩
  | .hbm, ⟨8, _⟩ => ⟨S1536x10240, .bf16⟩
  | .hbm, ⟨9, _⟩ => ⟨S2x768x10240, .bf16⟩
  | .hbm, ⟨10, _⟩ => ⟨S2x768x7168, .fp8e4m3⟩
  | .hbm, ⟨11, _⟩ => ⟨S2x768x1, .f32⟩
  | .local _ .vmem, ⟨0, _⟩ => ⟨S128x7168, .bf16⟩
  | .local _ .vmem, ⟨1, _⟩ => ⟨S128x7168, .bf16⟩
  | .local _ .vmem, ⟨2, _⟩ => ⟨S128x7168, .fp8e4m3⟩
  | .local _ .vmem, ⟨3, _⟩ => ⟨S128x7168, .fp8e4m3⟩
  | .local _ .vmem, ⟨4, _⟩ => ⟨S128x1, .f32⟩
  | .local _ .vmem, ⟨5, _⟩ => ⟨S128x1, .f32⟩
  | .local _ .vmem, ⟨6, _⟩ => ⟨S1536x7168, .fp8e4m3⟩
  | .local _ .vmem, ⟨7, _⟩ => ⟨S256x3584, .i8⟩
  | .local _ .vmem, ⟨8, _⟩ => ⟨S256x3584, .i8⟩
  | .local _ .vmem, ⟨9, _⟩ => ⟨S256x56, .f32⟩
  | .local _ .vmem, ⟨10, _⟩ => ⟨S256x56, .f32⟩
  | .local _ .vmem, ⟨11, _⟩ => ⟨S1536x1, .f32⟩
  | .local _ .vmem, ⟨12, _⟩ => ⟨S1x256, .f32⟩
  | .local _ .vmem, ⟨13, _⟩ => ⟨S1x256, .f32⟩
  | .local _ .vmem, ⟨14, _⟩ => ⟨S1536x256, .bf16⟩
  | .local _ .vmem, ⟨15, _⟩ => ⟨S1536x256, .bf16⟩
  | .local _ .vmem, ⟨16, _⟩ => ⟨S7168x256, .fp8e4m3⟩
  | .local _ .vmem, ⟨17, _⟩ => ⟨S56x256, .f32⟩
  | _, _ => ⟨S2x768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [BitOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

@[reducible] def k1_t1_loop : Scf.Loop 32 :=
  let c0_i32 : BitVec 32 := 0#32
  let c12_i32 : BitVec 32 := 12#32
  let v453 : BitVec 32 := Scalar.addi c0_i32 c12_i32
  let c1_i32 : BitVec 32 := 1#32
  ⟨c0_i32, v453, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  v454
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v457 : Index := Scalar.indexCast v455
  let c0_102 : Index := 0#32
  ![v457.toNat, 0]
def k1_off2 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v466 : Index := Scalar.indexCast v455
  let c128_108 : Index := 128#32
  ![v466.toNat, 128]
def k1_off3 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v475 : Index := Scalar.indexCast v455
  let c256_113 : Index := 256#32
  ![v475.toNat, 256]
def k1_off4 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v484 : Index := Scalar.indexCast v455
  let c384_118 : Index := 384#32
  ![v484.toNat, 384]
def k1_off5 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v493 : Index := Scalar.indexCast v455
  let c512_123 : Index := 512#32
  ![v493.toNat, 512]
def k1_off6 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v502 : Index := Scalar.indexCast v455
  let c640_128 : Index := 640#32
  ![v502.toNat, 640]
def k1_off7 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v511 : Index := Scalar.indexCast v455
  let c768_133 : Index := 768#32
  ![v511.toNat, 768]
def k1_off8 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v520 : Index := Scalar.indexCast v455
  let c896_138 : Index := 896#32
  ![v520.toNat, 896]
def k1_off9 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v529 : Index := Scalar.indexCast v455
  let c1024_143 : Index := 1024#32
  ![v529.toNat, 1024]
def k1_off10 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v538 : Index := Scalar.indexCast v455
  let c1152_148 : Index := 1152#32
  ![v538.toNat, 1152]
def k1_off11 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v547 : Index := Scalar.indexCast v455
  let c1280_153 : Index := 1280#32
  ![v547.toNat, 1280]
def k1_off12 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v556 : Index := Scalar.indexCast v455
  let c1408_158 : Index := 1408#32
  ![v556.toNat, 1408]
def k1_off13 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v565 : Index := Scalar.indexCast v455
  let c1536_163 : Index := 1536#32
  ![v565.toNat, 1536]
def k1_off14 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v574 : Index := Scalar.indexCast v455
  let c1664_168 : Index := 1664#32
  ![v574.toNat, 1664]
def k1_off15 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v583 : Index := Scalar.indexCast v455
  let c1792_173 : Index := 1792#32
  ![v583.toNat, 1792]
def k1_off16 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v592 : Index := Scalar.indexCast v455
  let c1920_178 : Index := 1920#32
  ![v592.toNat, 1920]
def k1_off17 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v601 : Index := Scalar.indexCast v455
  let c2048_183 : Index := 2048#32
  ![v601.toNat, 2048]
def k1_off18 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v610 : Index := Scalar.indexCast v455
  let c2176_188 : Index := 2176#32
  ![v610.toNat, 2176]
def k1_off19 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v619 : Index := Scalar.indexCast v455
  let c2304_193 : Index := 2304#32
  ![v619.toNat, 2304]
def k1_off20 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v628 : Index := Scalar.indexCast v455
  let c2432_198 : Index := 2432#32
  ![v628.toNat, 2432]
def k1_off21 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v637 : Index := Scalar.indexCast v455
  let c2560_203 : Index := 2560#32
  ![v637.toNat, 2560]
def k1_off22 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v646 : Index := Scalar.indexCast v455
  let c2688_208 : Index := 2688#32
  ![v646.toNat, 2688]
def k1_off23 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v655 : Index := Scalar.indexCast v455
  let c2816_213 : Index := 2816#32
  ![v655.toNat, 2816]
def k1_off24 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v664 : Index := Scalar.indexCast v455
  let c2944_218 : Index := 2944#32
  ![v664.toNat, 2944]
def k1_off25 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v673 : Index := Scalar.indexCast v455
  let c3072_223 : Index := 3072#32
  ![v673.toNat, 3072]
def k1_off26 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v682 : Index := Scalar.indexCast v455
  let c3200_228 : Index := 3200#32
  ![v682.toNat, 3200]
def k1_off27 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v691 : Index := Scalar.indexCast v455
  let c3328_233 : Index := 3328#32
  ![v691.toNat, 3328]
def k1_off28 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v700 : Index := Scalar.indexCast v455
  let c3456_238 : Index := 3456#32
  ![v700.toNat, 3456]
def k1_off29 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v709 : Index := Scalar.indexCast v455
  let c3584_243 : Index := 3584#32
  ![v709.toNat, 3584]
def k1_off30 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v718 : Index := Scalar.indexCast v455
  let c3712 : Index := 3712#32
  ![v718.toNat, 3712]
def k1_off31 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v727 : Index := Scalar.indexCast v455
  let c3840_252 : Index := 3840#32
  ![v727.toNat, 3840]
def k1_off32 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v736 : Index := Scalar.indexCast v455
  let c3968 : Index := 3968#32
  ![v736.toNat, 3968]
def k1_off33 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v745 : Index := Scalar.indexCast v455
  let c4096_261 : Index := 4096#32
  ![v745.toNat, 4096]
def k1_off34 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v754 : Index := Scalar.indexCast v455
  let c4224 : Index := 4224#32
  ![v754.toNat, 4224]
def k1_off35 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v763 : Index := Scalar.indexCast v455
  let c4352_270 : Index := 4352#32
  ![v763.toNat, 4352]
def k1_off36 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v772 : Index := Scalar.indexCast v455
  let c4480 : Index := 4480#32
  ![v772.toNat, 4480]
def k1_off37 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v781 : Index := Scalar.indexCast v455
  let c4608_279 : Index := 4608#32
  ![v781.toNat, 4608]
def k1_off38 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v790 : Index := Scalar.indexCast v455
  let c4736 : Index := 4736#32
  ![v790.toNat, 4736]
def k1_off39 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v799 : Index := Scalar.indexCast v455
  let c4864_288 : Index := 4864#32
  ![v799.toNat, 4864]
def k1_off40 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v808 : Index := Scalar.indexCast v455
  let c4992 : Index := 4992#32
  ![v808.toNat, 4992]
def k1_off41 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v817 : Index := Scalar.indexCast v455
  let c5120_297 : Index := 5120#32
  ![v817.toNat, 5120]
def k1_off42 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v826 : Index := Scalar.indexCast v455
  let c5248 : Index := 5248#32
  ![v826.toNat, 5248]
def k1_off43 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v835 : Index := Scalar.indexCast v455
  let c5376_306 : Index := 5376#32
  ![v835.toNat, 5376]
def k1_off44 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v844 : Index := Scalar.indexCast v455
  let c5504 : Index := 5504#32
  ![v844.toNat, 5504]
def k1_off45 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v853 : Index := Scalar.indexCast v455
  let c5632_315 : Index := 5632#32
  ![v853.toNat, 5632]
def k1_off46 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v862 : Index := Scalar.indexCast v455
  let c5760 : Index := 5760#32
  ![v862.toNat, 5760]
def k1_off47 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v871 : Index := Scalar.indexCast v455
  let c5888_324 : Index := 5888#32
  ![v871.toNat, 5888]
def k1_off48 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v880 : Index := Scalar.indexCast v455
  let c6016 : Index := 6016#32
  ![v880.toNat, 6016]
def k1_off49 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v889 : Index := Scalar.indexCast v455
  let c6144_333 : Index := 6144#32
  ![v889.toNat, 6144]
def k1_off50 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v898 : Index := Scalar.indexCast v455
  let c6272 : Index := 6272#32
  ![v898.toNat, 6272]
def k1_off51 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v907 : Index := Scalar.indexCast v455
  let c6400_342 : Index := 6400#32
  ![v907.toNat, 6400]
def k1_off52 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v916 : Index := Scalar.indexCast v455
  let c6528 : Index := 6528#32
  ![v916.toNat, 6528]
def k1_off53 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v925 : Index := Scalar.indexCast v455
  let c6656_351 : Index := 6656#32
  ![v925.toNat, 6656]
def k1_off54 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v934 : Index := Scalar.indexCast v455
  let c6784 : Index := 6784#32
  ![v934.toNat, 6784]
def k1_off55 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v943 : Index := Scalar.indexCast v455
  let c6912_360 : Index := 6912#32
  ![v943.toNat, 6912]
def k1_off56 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v952 : Index := Scalar.indexCast v455
  let c7040 : Index := 7040#32
  ![v952.toNat, 7040]
def k1_off57 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v961 : Index := Scalar.indexCast v455
  let c0_369 : Index := 0#32
  ![v961.toNat, 0]
def k1_off58 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32 : BitVec 32 := 128#32
  let v454 : BitVec 32 := Scalar.muli arg9 c128_i32
  let v455 : BitVec 32 := v454
  let v971 : Index := Scalar.indexCast v455
  let c0_372 : Index := 0#32
  ![v971.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1536x7168 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x3584 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x56 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1536x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1536x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Kernel.lean ====
abbrev S1536x7168 : Shape := ⟨2, ![1536, 7168]⟩
abbrev S10240x3584 : Shape := ⟨2, ![10240, 3584]⟩
abbrev S10240x56 : Shape := ⟨2, ![10240, 56]⟩
abbrev S1536x1 : Shape := ⟨2, ![1536, 1]⟩
abbrev S10240 : Shape := ⟨1, ![10240]⟩
abbrev S1x10240 : Shape := ⟨2, ![1, 10240]⟩
abbrev S1536x10240 : Shape := ⟨2, ![1536, 10240]⟩
abbrev S256x3584 : Shape := ⟨2, ![256, 3584]⟩
abbrev S256x56 : Shape := ⟨2, ![256, 56]⟩
abbrev S1x256 : Shape := ⟨2, ![1, 256]⟩
abbrev S1536x256 : Shape := ⟨2, ![1536, 256]⟩
abbrev S7168x256 : Shape := ⟨2, ![7168, 256]⟩
abbrev S56x256 : Shape := ⟨2, ![56, 256]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S128x128 : Shape := ⟨2, ![128, 128]⟩
abbrev S128x1 : Shape := ⟨2, ![128, 1]⟩

abbrev nBuf : Space → Nat
  | .hbm => 7
  | .vmem => 12
  | .smem => 0
  | _ => 0

abbrev bufTy : (tb : Table) → Fin (tcTables nBuf tb) → BufTy
  | .hbm, ⟨0, _⟩ => ⟨S1536x7168, .fp8e4m3⟩
  | .hbm, ⟨1, _⟩ => ⟨S10240x3584, .i8⟩
  | .hbm, ⟨2, _⟩ => ⟨S10240x56, .f32⟩
  | .hbm, ⟨3, _⟩ => ⟨S1536x1, .f32⟩
  | .hbm, ⟨4, _⟩ => ⟨S10240, .f32⟩
  | .hbm, ⟨5, _⟩ => ⟨S1x10240, .f32⟩
  | .hbm, ⟨6, _⟩ => ⟨S1536x10240, .bf16⟩
  | .local _ .vmem, ⟨0, _⟩ => ⟨S1536x7168, .fp8e4m3⟩
  | .local _ .vmem, ⟨1, _⟩ => ⟨S256x3584, .i8⟩
  | .local _ .vmem, ⟨2, _⟩ => ⟨S256x3584, .i8⟩
  | .local _ .vmem, ⟨3, _⟩ => ⟨S256x56, .f32⟩
  | .local _ .vmem, ⟨4, _⟩ => ⟨S256x56, .f32⟩
  | .local _ .vmem, ⟨5, _⟩ => ⟨S1536x1, .f32⟩
  | .local _ .vmem, ⟨6, _⟩ => ⟨S1x256, .f32⟩
  | .local _ .vmem, ⟨7, _⟩ => ⟨S1x256, .f32⟩
  | .local _ .vmem, ⟨8, _⟩ => ⟨S1536x256, .bf16⟩
  | .local _ .vmem, ⟨9, _⟩ => ⟨S1536x256, .bf16⟩
  | .local _ .vmem, ⟨10, _⟩ => ⟨S7168x256, .fp8e4m3⟩
  | .local _ .vmem, ⟨11, _⟩ => ⟨S56x256, .f32⟩
  | _, _ => ⟨S1536x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32 : BitVec 32 := 0#32
  let c12_i32 : BitVec 32 := 12#32
  let v453 : BitVec 32 := Scalar.addi c0_i32 c12_i32
  let c1_i32 : BitVec 32 := 1#32
  ⟨c0_i32, v453, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  v454
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v457 : Index := Scalar.indexCast v455
  let c0_102 : Index := 0#32
  ![v457.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v465 : Index := Scalar.indexCast v455
  let c128_108 : Index := 128#32
  ![v465.toNat, 128]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v473 : Index := Scalar.indexCast v455
  let c256_113 : Index := 256#32
  ![v473.toNat, 256]
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v481 : Index := Scalar.indexCast v455
  let c384_118 : Index := 384#32
  ![v481.toNat, 384]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v489 : Index := Scalar.indexCast v455
  let c512_123 : Index := 512#32
  ![v489.toNat, 512]
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v497 : Index := Scalar.indexCast v455
  let c640_128 : Index := 640#32
  ![v497.toNat, 640]
def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v505 : Index := Scalar.indexCast v455
  let c768_133 : Index := 768#32
  ![v505.toNat, 768]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v513 : Index := Scalar.indexCast v455
  let c896_138 : Index := 896#32
  ![v513.toNat, 896]
def k0_off9 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v521 : Index := Scalar.indexCast v455
  let c1024_143 : Index := 1024#32
  ![v521.toNat, 1024]
def k0_off10 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v529 : Index := Scalar.indexCast v455
  let c1152_148 : Index := 1152#32
  ![v529.toNat, 1152]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v537 : Index := Scalar.indexCast v455
  let c1280_153 : Index := 1280#32
  ![v537.toNat, 1280]
def k0_off12 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v545 : Index := Scalar.indexCast v455
  let c1408_158 : Index := 1408#32
  ![v545.toNat, 1408]
def k0_off13 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v553 : Index := Scalar.indexCast v455
  let c1536_163 : Index := 1536#32
  ![v553.toNat, 1536]
def k0_off14 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v561 : Index := Scalar.indexCast v455
  let c1664_168 : Index := 1664#32
  ![v561.toNat, 1664]
def k0_off15 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v569 : Index := Scalar.indexCast v455
  let c1792_173 : Index := 1792#32
  ![v569.toNat, 1792]
def k0_off16 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v577 : Index := Scalar.indexCast v455
  let c1920_178 : Index := 1920#32
  ![v577.toNat, 1920]
def k0_off17 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v585 : Index := Scalar.indexCast v455
  let c2048_183 : Index := 2048#32
  ![v585.toNat, 2048]
def k0_off18 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v593 : Index := Scalar.indexCast v455
  let c2176_188 : Index := 2176#32
  ![v593.toNat, 2176]
def k0_off19 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v601 : Index := Scalar.indexCast v455
  let c2304_193 : Index := 2304#32
  ![v601.toNat, 2304]
def k0_off20 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v609 : Index := Scalar.indexCast v455
  let c2432_198 : Index := 2432#32
  ![v609.toNat, 2432]
def k0_off21 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v617 : Index := Scalar.indexCast v455
  let c2560_203 : Index := 2560#32
  ![v617.toNat, 2560]
def k0_off22 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v625 : Index := Scalar.indexCast v455
  let c2688_208 : Index := 2688#32
  ![v625.toNat, 2688]
def k0_off23 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v633 : Index := Scalar.indexCast v455
  let c2816_213 : Index := 2816#32
  ![v633.toNat, 2816]
def k0_off24 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v641 : Index := Scalar.indexCast v455
  let c2944_218 : Index := 2944#32
  ![v641.toNat, 2944]
def k0_off25 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v649 : Index := Scalar.indexCast v455
  let c3072_223 : Index := 3072#32
  ![v649.toNat, 3072]
def k0_off26 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v657 : Index := Scalar.indexCast v455
  let c3200_228 : Index := 3200#32
  ![v657.toNat, 3200]
def k0_off27 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v665 : Index := Scalar.indexCast v455
  let c3328_233 : Index := 3328#32
  ![v665.toNat, 3328]
def k0_off28 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v673 : Index := Scalar.indexCast v455
  let c3456_238 : Index := 3456#32
  ![v673.toNat, 3456]
def k0_off29 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v681 : Index := Scalar.indexCast v455
  let c3584_243 : Index := 3584#32
  ![v681.toNat, 3584]
def k0_off30 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v689 : Index := Scalar.indexCast v455
  let c3712 : Index := 3712#32
  ![v689.toNat, 3712]
def k0_off31 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v697 : Index := Scalar.indexCast v455
  let c3840_252 : Index := 3840#32
  ![v697.toNat, 3840]
def k0_off32 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v705 : Index := Scalar.indexCast v455
  let c3968 : Index := 3968#32
  ![v705.toNat, 3968]
def k0_off33 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v713 : Index := Scalar.indexCast v455
  let c4096_261 : Index := 4096#32
  ![v713.toNat, 4096]
def k0_off34 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v721 : Index := Scalar.indexCast v455
  let c4224 : Index := 4224#32
  ![v721.toNat, 4224]
def k0_off35 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v729 : Index := Scalar.indexCast v455
  let c4352_270 : Index := 4352#32
  ![v729.toNat, 4352]
def k0_off36 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v737 : Index := Scalar.indexCast v455
  let c4480 : Index := 4480#32
  ![v737.toNat, 4480]
def k0_off37 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v745 : Index := Scalar.indexCast v455
  let c4608_279 : Index := 4608#32
  ![v745.toNat, 4608]
def k0_off38 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v753 : Index := Scalar.indexCast v455
  let c4736 : Index := 4736#32
  ![v753.toNat, 4736]
def k0_off39 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v761 : Index := Scalar.indexCast v455
  let c4864_288 : Index := 4864#32
  ![v761.toNat, 4864]
def k0_off40 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v769 : Index := Scalar.indexCast v455
  let c4992 : Index := 4992#32
  ![v769.toNat, 4992]
def k0_off41 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v777 : Index := Scalar.indexCast v455
  let c5120_297 : Index := 5120#32
  ![v777.toNat, 5120]
def k0_off42 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v785 : Index := Scalar.indexCast v455
  let c5248 : Index := 5248#32
  ![v785.toNat, 5248]
def k0_off43 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v793 : Index := Scalar.indexCast v455
  let c5376_306 : Index := 5376#32
  ![v793.toNat, 5376]
def k0_off44 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v801 : Index := Scalar.indexCast v455
  let c5504 : Index := 5504#32
  ![v801.toNat, 5504]
def k0_off45 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v809 : Index := Scalar.indexCast v455
  let c5632_315 : Index := 5632#32
  ![v809.toNat, 5632]
def k0_off46 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v817 : Index := Scalar.indexCast v455
  let c5760 : Index := 5760#32
  ![v817.toNat, 5760]
def k0_off47 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v825 : Index := Scalar.indexCast v455
  let c5888_324 : Index := 5888#32
  ![v825.toNat, 5888]
def k0_off48 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v833 : Index := Scalar.indexCast v455
  let c6016 : Index := 6016#32
  ![v833.toNat, 6016]
def k0_off49 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v841 : Index := Scalar.indexCast v455
  let c6144_333 : Index := 6144#32
  ![v841.toNat, 6144]
def k0_off50 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v849 : Index := Scalar.indexCast v455
  let c6272 : Index := 6272#32
  ![v849.toNat, 6272]
def k0_off51 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v857 : Index := Scalar.indexCast v455
  let c6400_342 : Index := 6400#32
  ![v857.toNat, 6400]
def k0_off52 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v865 : Index := Scalar.indexCast v455
  let c6528 : Index := 6528#32
  ![v865.toNat, 6528]
def k0_off53 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v873 : Index := Scalar.indexCast v455
  let c6656_351 : Index := 6656#32
  ![v873.toNat, 6656]
def k0_off54 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v881 : Index := Scalar.indexCast v455
  let c6784 : Index := 6784#32
  ![v881.toNat, 6784]
def k0_off55 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v889 : Index := Scalar.indexCast v455
  let c6912_360 : Index := 6912#32
  ![v889.toNat, 6912]
def k0_off56 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v897 : Index := Scalar.indexCast v455
  let c7040 : Index := 7040#32
  ![v897.toNat, 7040]
def k0_off57 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v905 : Index := Scalar.indexCast v455
  let c0_369 : Index := 0#32
  ![v905.toNat, 0]
def k0_off58 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v454 : BitVec 32 := Scalar.muli arg9 c128_i32
  let v455 : BitVec 32 := v454
  let v914 : Index := Scalar.indexCast v455
  let c0_372 : Index := 0#32
  ![v914.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1536x7168 : Shape := ⟨2, ![1536, 7168]⟩
abbrev S10240x3584 : Shape := ⟨2, ![10240, 3584]⟩
abbrev S10240x56 : Shape := ⟨2, ![10240, 56]⟩
abbrev S1536x1 : Shape := ⟨2, ![1536, 1]⟩
abbrev S10240 : Shape := ⟨1, ![10240]⟩
abbrev S_ : Shape := ⟨0, ![]⟩
abbrev S10240x3584x1 : Shape := ⟨3, ![10240, 3584, 1]⟩
abbrev S10240x3584x2 : Shape := ⟨3, ![10240, 3584, 2]⟩
abbrev S10240x7168 : Shape := ⟨2, ![10240, 7168]⟩
abbrev S1x10240 : Shape := ⟨2, ![1, 10240]⟩
abbrev S1536x10240 : Shape := ⟨2, ![1536, 10240]⟩
abbrev S1536x56x128 : Shape := ⟨3, ![1536, 56, 128]⟩
abbrev S10240x56x128 : Shape := ⟨3, ![10240, 56, 128]⟩
abbrev S56x1536x10240 : Shape := ⟨3, ![56, 1536, 10240]⟩
abbrev S56x10240 : Shape := ⟨2, ![56, 10240]⟩
abbrev S56x1x10240 : Shape := ⟨3, ![56, 1, 10240]⟩

abbrev nBuf : Space → Nat
  | .hbm => 36
  | .vmem => 6
  | .smem => 0
  | _ => 0

abbrev bufTy : (tb : Table) → Fin (tcTables nBuf tb) → BufTy
  | .hbm, ⟨0, _⟩ => ⟨S1536x7168, .fp8e4m3⟩
  | .hbm, ⟨1, _⟩ => ⟨S10240x3584, .i8⟩
  | .hbm, ⟨2, _⟩ => ⟨S10240x56, .f32⟩
  | .hbm, ⟨3, _⟩ => ⟨S1536x1, .f32⟩
  | .hbm, ⟨4, _⟩ => ⟨S10240, .f32⟩
  | .hbm, ⟨5, _⟩ => ⟨S10240x3584, .i32⟩
  | .hbm, ⟨6, _⟩ => ⟨S_, .i32⟩
  | .hbm, ⟨7, _⟩ => ⟨S10240x3584, .i32⟩
  | .hbm, ⟨8, _⟩ => ⟨S10240x3584, .i32⟩
  | .hbm, ⟨9, _⟩ => ⟨S_, .i32⟩
  | .hbm, ⟨10, _⟩ => ⟨S10240x3584, .i32⟩
  | .hbm, ⟨11, _⟩ => ⟨S10240x3584, .i32⟩
  | .hbm, ⟨12, _⟩ => ⟨S_, .i32⟩
  | .hbm, ⟨13, _⟩ => ⟨S10240x3584, .i32⟩
  | .hbm, ⟨14, _⟩ => ⟨S10240x3584, .i32⟩
  | .hbm, ⟨15, _⟩ => ⟨S_, .i32⟩
  | .hbm, ⟨16, _⟩ => ⟨S10240x3584, .i32⟩
  | .hbm, ⟨17, _⟩ => ⟨S10240x3584, .i1⟩
  | .hbm, ⟨18, _⟩ => ⟨S_, .i32⟩
  | .hbm, ⟨19, _⟩ => ⟨S10240x3584, .i32⟩
  | .hbm, ⟨20, _⟩ => ⟨S10240x3584, .i32⟩
  | .hbm, ⟨21, _⟩ => ⟨S10240x3584, .i32⟩
  | .hbm, ⟨22, _⟩ => ⟨S_, .i32⟩
  | .hbm, ⟨23, _⟩ => ⟨S10240x3584, .i32⟩
  | .hbm, ⟨24, _⟩ => ⟨S10240x3584, .i1⟩
  | .hbm, ⟨25, _⟩ => ⟨S_, .i32⟩
  | .hbm, ⟨26, _⟩ => ⟨S10240x3584, .i32⟩
  | .hbm, ⟨27, _⟩ => ⟨S10240x3584, .i32⟩
  | .hbm, ⟨28, _⟩ => ⟨S10240x3584, .i32⟩
  | .hbm, ⟨29, _⟩ => ⟨S10240x3584x1, .i32⟩
  | .hbm, ⟨30, _⟩ => ⟨S10240x3584x1, .i32⟩
  | .hbm, ⟨31, _⟩ => ⟨S10240x3584x2, .i32⟩
  | .hbm, ⟨32, _⟩ => ⟨S10240x7168, .i32⟩
  | .hbm, ⟨33, _⟩ => ⟨S10240x7168, .bf16⟩
  | .hbm, ⟨34, _⟩ => ⟨S1x10240, .f32⟩
  | .hbm, ⟨35, _⟩ => ⟨S1536x10240, .bf16⟩
  | .local _ .vmem, ⟨0, _⟩ => ⟨S1536x7168, .fp8e4m3⟩
  | .local _ .vmem, ⟨1, _⟩ => ⟨S10240x7168, .bf16⟩
  | .local _ .vmem, ⟨2, _⟩ => ⟨S10240x56, .f32⟩
  | .local _ .vmem, ⟨3, _⟩ => ⟨S1536x1, .f32⟩
  | .local _ .vmem, ⟨4, _⟩ => ⟨S1x10240, .f32⟩
  | .local _ .vmem, ⟨5, _⟩ => ⟨S1536x10240, .bf16⟩
  | _, _ => ⟨S1536x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x10240 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Quantise.lean ====
abbrev S2x768x7168 : Shape := ⟨3, ![2, 768, 7168]⟩
abbrev S1536x7168 : Shape := ⟨2, ![1536, 7168]⟩
abbrev S1536x1 : Shape := ⟨2, ![1536, 1]⟩
abbrev S128x7168 : Shape := ⟨2, ![128, 7168]⟩
abbrev S128x1 : Shape := ⟨2, ![128, 1]⟩
abbrev S128 : Shape := ⟨1, ![128]⟩

abbrev nBuf : Space → Nat
  | .hbm => 4
  | .vmem => 6
  | .smem => 0
  | _ => 0

abbrev bufTy : (tb : Table) → Fin (tcTables nBuf tb) → BufTy
  | .hbm, ⟨0, _⟩ => ⟨S2x768x7168, .bf16⟩
  | .hbm, ⟨1, _⟩ => ⟨S1536x7168, .bf16⟩
  | .hbm, ⟨2, _⟩ => ⟨S1536x7168, .fp8e4m3⟩
  | .hbm, ⟨3, _⟩ => ⟨S1536x1, .f32⟩
  | .local _ .vmem, ⟨0, _⟩ => ⟨S128x7168, .bf16⟩
  | .local _ .vmem, ⟨1, _⟩ => ⟨S128x7168, .bf16⟩
  | .local _ .vmem, ⟨2, _⟩ => ⟨S128x7168, .fp8e4m3⟩
  | .local _ .vmem, ⟨3, _⟩ => ⟨S128x7168, .fp8e4m3⟩
  | .local _ .vmem, ⟨4, _⟩ => ⟨S128x1, .f32⟩
  | .local _ .vmem, ⟨5, _⟩ => ⟨S128x1, .f32⟩
  | _, _ => ⟨S2x768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantiseReference.lean ====
abbrev S2x768x7168 : Shape := ⟨3, ![2, 768, 7168]⟩
abbrev S1536x7168 : Shape := ⟨2, ![1536, 7168]⟩
abbrev S1536x1 : Shape := ⟨2, ![1536, 1]⟩
abbrev S1536 : Shape := ⟨1, ![1536]⟩

abbrev nBuf : Space → Nat
  | .hbm => 4
  | .vmem => 3
  | .smem => 0
  | _ => 0

abbrev bufTy : (tb : Table) → Fin (tcTables nBuf tb) → BufTy
  | .hbm, ⟨0, _⟩ => ⟨S2x768x7168, .bf16⟩
  | .hbm, ⟨1, _⟩ => ⟨S1536x7168, .bf16⟩
  | .hbm, ⟨2, _⟩ => ⟨S1536x7168, .fp8e4m3⟩
  | .hbm, ⟨3, _⟩ => ⟨S1536x1, .f32⟩
  | .local _ .vmem, ⟨0, _⟩ => ⟨S1536x7168, .bf16⟩
  | .local _ .vmem, ⟨1, _⟩ => ⟨S1536x7168, .fp8e4m3⟩
  | .local _ .vmem, ⟨2, _⟩ => ⟨S1536x1, .f32⟩
  | _, _ => ⟨S2x768x7168, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.QuantiseRow.lean ====
/-
  WHAT ONE ROW'S QUANTISATION COMPUTES, at any float values with a bit pattern, apart from any tiling: the row's largest
  magnitude (`rowMax`), the exponent the quantiser reads off it (`exponent`), one scaled by a power of two (`ldexpOne`), the
  row's scale (`scaleOf`) and one element's code (`codeOf`). The vector forms are stated at any shape, so that a block of 128
  rows and the whole array are read by the same lemmas.
-/
module

public import proofs.«01_k».proof.Proof.Gen.Quantise.Frame
public import Idealize.ShloMosaic.PureOps.Reduce
public import Idealize.ShloMosaic.Lib.LaneSum
public import Idealize.ShloMosaic.Lib.ValueLayoutCasts
public import Idealize.ShloMosaic.Lib.ValueIdx

@[expose] public section

noncomputable section

namespace Cert.Proof.Row

open Idealize.ShloMosaic

variable {F : FTy → Type} [BitOps F]

/-- A reduction along the lanes of a rank-2 array, at a kept row: the left fold of `f` along that row, lane 0 first. -/
theorem reduceFold_lanes {α : Type} {d : Fin 2 → Nat} {t : Shape} (h : (⟨2, d⟩ : Shape).Reduces [1] t) (f : α → α → α)
    (init : α) (x : (⟨2, d⟩ : Shape).Idx → α) (j : t.Idx) :
    reduceFold h f init x j = (List.finRange (d 1)).foldl (fun a k => f a (x (Shape.pair (h.row j) k))) init := by
  rw [reduceFold_eq_foldl]
  show (Bits.XluNumerics.fiber h j).foldl _ _ = _
  rw [Bits.XluNumerics.fiber_row, List.foldl_map]

/-- The exponent the quantiser reads off the largest magnitudes `a`: that of `a / 448` (a subnormal read as zero), and zero
    where `a` is zero. -/
def exponent {s : Shape} (a : FVec F s .f32) : IVec s 32 :=
  let w := bitcastToInt (mulf a (broadcast s (Scalar.ofBits .f32 0x3B124925#32)))
  let f := bitcastToInt (bitcastToFloat (F := F) .f32
    (select (cmpi .eq (andi w (broadcast s 2139095040#32)) (broadcast s 0#32)) (andi w (broadcast s 2147483648#32)) w))
  let e := andi (shrui f (broadcast s 23#32)) (broadcast s 255#32)
  select (cmpf .oeq a (broadcast s (Scalar.ofBits .f32 0x00000000#32))) (broadcast s 0#32)
    (select (ori (cmpi .eq e (broadcast s 255#32)) (cmpi .eq e (broadcast s 0#32))) (broadcast s 0#32)
      (subi e (broadcast s 126#32)))

/-- One scaled by two to the power `n`, as its word is put together from the word of one. -/
def ldexpOne {s : Shape} (n : IVec s 32) : FVec F s .f32 :=
  let o : IVec s 32 := bitcastToInt (broadcast s (Scalar.ofBits (F := F) .f32 0x3F800000#32))
  let w := bitcastToInt (bitcastToFloat (F := F) .f32
    (select (cmpi .eq (andi o (broadcast s 2139095040#32)) (broadcast s 0#32)) (andi o (broadcast s 2147483648#32)) o))
  let sg := andi w (broadcast s 2147483648#32)
  let e := andi (shrui w (broadcast s 23#32)) (broadcast s 255#32)
  let fr := andi w (broadcast s 8388607#32)
  let e' := addi e (minsi (maxsi n (broadcast s 4294966784#32)) (broadcast s 512#32))
  bitcastToFloat .f32 (select (cmpi .eq e (broadcast s 255#32)) w
    (select (cmpi .eq e (broadcast s 0#32)) sg
      (select (cmpi .sle e' (broadcast s 0#32)) sg
        (select (cmpi .sge e' (broadcast s 255#32)) (ori sg (broadcast s 2139095040#32))
          (ori (ori sg (shli e' (broadcast s 23#32))) fr)))))

/-- The scales of the rows whose largest magnitudes are `a`. -/
def scales {s : Shape} (a : FVec F s .f32) : FVec F s .f32 := ldexpOne (exponent a)

/-- The factors by which those rows are multiplied: the same power of two, its exponent negated. -/
def factors {s : Shape} (a : FVec F s .f32) : FVec F s .f32 := ldexpOne (subi (broadcast s 0#32) (exponent a))

/-- A scalar as an array of no axes. -/
abbrev only (a : F .f32) : FVec F ⟨0, ![]⟩ .f32 := fun _ => a

/-- One row's scale, from its largest magnitude. -/
def scaleOf (a : F .f32) : F .f32 := scales (only a) fun b => b.elim0

/-- One row's factor, from its largest magnitude. -/
def factorOf (a : F .f32) : F .f32 := factors (only a) fun b => b.elim0

theorem exponent_apply {s : Shape} (a : FVec F s .f32) (i : s.Idx) :
    exponent a i = exponent (only (a i)) fun b => b.elim0 := rfl

theorem ldexpOne_apply {s : Shape} (n : IVec s 32) (i : s.Idx) :
    ldexpOne (F := F) n i = ldexpOne (F := F) (s := ⟨0, ![]⟩) (fun _ => n i) fun b => b.elim0 := rfl

/-- The scales are computed row by row. -/
theorem scales_apply {s : Shape} (a : FVec F s .f32) (i : s.Idx) : scales a i = scaleOf (a i) := by
  unfold scaleOf scales
  rw [ldexpOne_apply, exponent_apply, ldexpOne_apply (exponent (only (a i)))]

/-- The factors are computed row by row. -/
theorem factors_apply {s : Shape} (a : FVec F s .f32) (i : s.Idx) : factors a i = factorOf (a i) := by
  unfold factorOf factors
  rw [ldexpOne_apply, ldexpOne_apply (subi _ (exponent (only (a i))))]
  unfold subi
  simp only [exponent_apply a i]
  rfl

/-- One element's code: the element times its row's factor, kept between -448 and 448 and rounded to eight bits. -/
def codeOf (a : F .f32) (x : F .bf16) : F .fp8e4m3 :=
  FloatOps.truncf .fp8e4m3 (by decide) (FloatOps.minimumf (Scalar.ofBits .f32 0x43E00000#32)
    (FloatOps.maximumf (Scalar.ofBits .f32 0xC3E00000#32) (FloatOps.mulf (FloatOps.extf .f32 (by decide) x) (factorOf a))))

/-- The largest magnitude of one row of 7168 elements. -/
def rowMax (x : Fin 7168 → F .bf16) : F .f32 :=
  (List.finRange 7168).foldl (fun a k => FloatOps.maximumf a (FloatOps.absf (FloatOps.extf .f32 (by decide) (x k))))
    (FloatOps.ofBits .f32 0xFF800000#32)

/-- The codes of a whole array of 1536 rows. -/
def arrayCodes (X : Vec F ⟨2, ![1536, 7168]⟩ .bf16) : Vec F ⟨2, ![1536, 7168]⟩ .fp8e4m3 := fun i =>
  codeOf (rowMax fun k => X (ValueIdx.ix2 (i 0 : Fin 1536) k)) (X i)

/-- The scales of a whole array of 1536 rows. -/
def arrayScales (X : Vec F ⟨2, ![1536, 7168]⟩ .bf16) : Vec F ⟨2, ![1536, 1]⟩ .f32 := fun i =>
  scaleOf (rowMax fun k => X (ValueIdx.ix2 (i 0 : Fin 1536) k))

end Cert.Proof.Row

end
-- ==== Proof.QuantiseTiles.lean ====
/-
  THE QUANTISER'S RUN, READ: 12 grid points of 128 rows leave the scale of every row and the code of every element, each as
  `QuantiseRow.lean` computes it from its own row of the reshaped argument.
-/
module

public import proofs.«01_k».proof.Proof.QuantiseRow
public import proofs.«01_k».proof.Proof.Gen.Quantise.Value
public import Idealize.ShloMosaic.Lib.Pipeline.ValueKit

@[expose] public section

noncomputable section

namespace Cert.Proof.Tiles

open Cert.Quantise Cert.Quantise.Gen Cert.Proof.Row
open Idealize.ShloMosaic hiding ix2 eq_ix2 ix1
open Idealize.ShloMosaic.TcCoe Idealize.SL.Sem
open Idealize.ShloMosaic.ValueIdx
open Idealize.ShloMosaic.Pipeline (Dat)

variable {F : FTy → Type} [BitOps F]
variable (m : (ℓ : Loc nD τ sig) → Buf (Elt F) ℓ) (ρ : Dev nD → PrngReg)

theorem hz : (![0, 0] : Fin 2 → Nat) = fun _ => 0 := funext fun a => by fin_cases a <;> rfl

/-- The largest magnitudes of a block's rows. -/
theorem max_apply (x : Vec F S128x7168 .bf16) (i : S128x1.Idx) :
    k0_pay3 x i = rowMax fun k => x (ix2 (i 0 : Fin 128) k) := by
  obtain ⟨r, u, rfl⟩ : ∃ (r : Fin 128) (u : Fin 1), i = ix2 r u := ⟨i 0, i 1, eq_ix2 i⟩
  unfold k0_pay3 k0_pay2
  dsimp only
  rw [shapeCast_a_a1_apply, shapeCast_self]
  refine (reduceFold_lanes reduces_S128x7168_S128 _ _ _ _).trans ?_
  unfold rowMax
  congr 1
  funext a k
  exact congrArg (fun z => FloatOps.maximumf a (FloatOps.absf (FloatOps.extf .f32 bitsLt_bf16_f32 (x z)))) (pair_eq_ix2 _ _)

/-- The block's scales. -/
theorem scales_eq (x : Vec F S128x7168 .bf16) : out0_2 x = scales (k0_pay3 x) := by
  unfold_out out0_2
  rw [View.canon_unit_zero hz, View.ld_unit_zero hz]
  rfl

/-- The block's codes. -/
theorem codes_eq (x : Vec F S128x7168 .bf16) : out0_1 x = fun i => codeOf (k0_pay3 x (ix2 (i 0 : Fin 128) (0 : Fin 1))) (x i) := by
  unfold_out out0_1
  rw [View.canon_unit_zero hz, View.ld_unit_zero hz]
  funext i
  show FloatOps.truncf .fp8e4m3 _ (FloatOps.minimumf _ (FloatOps.maximumf _ (FloatOps.mulf (k0_pay2 x i)
    (broadcastTo S128x7168 (factors (k0_pay3 x)) broadcasts_S128x1_S128x7168 i)))) = _
  have hb : broadcastTo S128x7168 (factors (k0_pay3 x)) broadcasts_S128x1_S128x7168 i
      = factorOf (k0_pay3 x (ix2 (i 0 : Fin 128) (0 : Fin 1))) :=
    (broadcastTo_apply (factors (k0_pay3 x)) broadcasts_S128x1_S128x7168 i (ix2 (i 0 : Fin 128) (0 : Fin 1))
      fun a => by match a with | ⟨0, _⟩ => rfl | ⟨1, _⟩ => rfl).trans (factors_apply _ _)
  have hx : k0_pay2 x i = FloatOps.extf .f32 bitsLt_bf16_f32 (x i) := by
    unfold k0_pay2
    rw [shapeCast_self]
    rfl
  rw [hb, hx]
  rfl

/-- The array the region finds is the argument, its rows in one line. -/
theorem V_main_v0 (c : Dev nD) : V m c main_v0
    = shapeCast S1536x7168 (m ((c : Thread nD τ).loc main_arg0)) shapeCasts_S2x768x7168_S1536x7168 := by
  unfold V hostOps0
  after_results
  rfl

theorem idx0 : ∀ t : Fin cfg0.N, win0_0.index t = ![(t : Nat), 0] := (by decide +kernel : ∀ t : Fin grid0.N, win0_0.index t = ![(t : Nat), 0])
theorem idx1 : ∀ t : Fin cfg0.N, win0_1.index t = ![(t : Nat), 0] := (by decide +kernel : ∀ t : Fin grid0.N, win0_1.index t = ![(t : Nat), 0])
theorem idx2 : ∀ t : Fin cfg0.N, win0_2.index t = ![(t : Nat), 0] := (by decide +kernel : ∀ t : Fin grid0.N, win0_2.index t = ![(t : Nat), 0])

/-- The largest magnitude of a block's row is that of the array's row. -/
theorem rowMax_iblk (c : Dev nD) (t : Fin cfg0.N) (i : S128x1.Idx) (r : Fin 1536) (hr : (r : Nat) = t * 128 + (i 0 : Nat)) :
    k0_pay3 (iblk m c 0 t) i = rowMax fun k => V m c main_v0 (ix2 r k) := by
  refine (max_apply _ _).trans (congrArg rowMax (funext fun k => ?_))
  blk_simp [iblk]
  congr 1
  blk_ext [idx0 t, hr]

/-- Every code of the array. -/
theorem final1 (c : Dev nD) : (dats m 0 c).arrAt 1 cfg0.N = arrayCodes (V m c main_v0) := by
  refine (dats m 0 c).arrAt_eq_of_covers 1 _ (by decide +kernel) fun t hf y => ?_
  blk_simp
  rw [after0_1, codes_eq]
  unfold arrayCodes
  refine congrArg₂ codeOf (rowMax_iblk m c t _ _ ?_) ?_
  · blk_simp [idx1 t]
  · blk_simp [iblk]
    congr 1
    blk_ext [idx0 t, idx1 t]

/-- Every scale of the array. -/
theorem final2 (c : Dev nD) : (dats m 0 c).arrAt 2 cfg0.N = arrayScales (V m c main_v0) := by
  refine (dats m 0 c).arrAt_eq_of_covers 2 _ (by decide +kernel) fun t hf y => ?_
  blk_simp
  rw [after0_2, scales_eq, scales_apply]
  unfold arrayScales
  refine congrArg scaleOf (rowMax_iblk m c t _ _ ?_)
  blk_simp [idx2 t]

/-- The run, its two results as functions of the argument. -/
theorem run : θ_run defs (onTc (τ := τ) (main (F := F))) ⟨m, fun _ => 0, ρ⟩ fun r => ∀ c : Dev nD,
      r.2.mem ((c : Thread nD τ).loc main_v1_0) = arrayCodes (shapeCast S1536x7168 (m ((c : Thread nD τ).loc main_arg0)) shapeCasts_S2x768x7168_S1536x7168)
      ∧ r.2.mem ((c : Thread nD τ).loc main_v1_1) = arrayScales (shapeCast S1536x7168 (m ((c : Thread nD τ).loc main_arg0)) shapeCasts_S2x768x7168_S1536x7168)
      ∧ r.2.mem ((c : Thread nD τ).loc main_arg0) = m ((c : Thread nD τ).loc main_arg0) :=
  (θ_run defs _ _).mono (fun r h c => ⟨(h c).1.trans ((final1 m c).trans (congrArg _ (V_main_v0 m c))),
      (h c).2.1.trans ((final2 m c).trans (congrArg _ (V_main_v0 m c))), (h c).2.2⟩)
    (Cert.Quantise.Value.run_blocks m ρ)

end Cert.Proof.Tiles

end
-- ==== Proof.QuantiseWhole.lean ====
/-
  THE QUANTISER'S REFERENCE, READ: one grid point on the whole array leaves the scale of every row and the code of every
  element, each as `QuantiseRow.lean` computes it from its own row of the reshaped argument.
-/
module

public import proofs.«01_k».proof.Proof.QuantiseRow
public import proofs.«01_k».proof.Proof.Gen.QuantiseReference.Frame
public import Idealize.ShloMosaic.Lib.Pipeline.ValueKit

@[expose] public section

noncomputable section

namespace Cert.Proof.Whole

open Cert.QuantiseReference Cert.QuantiseReference.Gen Cert.Proof.Row
open Idealize.ShloMosaic hiding ix2 eq_ix2 ix1
open Idealize.ShloMosaic.TcCoe Idealize.SL.Sem
open Idealize.ShloMosaic.ValueIdx
open Idealize.ShloMosaic.Pipeline (Dat)

variable {F : FTy → Type} [BitOps F]
variable (m : (ℓ : Loc nD τ sig) → Buf (Elt F) ℓ) (ρ : Dev nD → PrngReg)

theorem hz : (![0, 0] : Fin 2 → Nat) = fun _ => 0 := funext fun a => by fin_cases a <;> rfl

/-- The largest magnitudes of a block's rows. -/
theorem max_apply (x : Vec F S1536x7168 .bf16) (i : S1536x1.Idx) :
    k0_pay3 x i = rowMax fun k => x (ix2 (i 0 : Fin 1536) k) := by
  obtain ⟨r, u, rfl⟩ : ∃ (r : Fin 1536) (u : Fin 1), i = ix2 r u := ⟨i 0, i 1, eq_ix2 i⟩
  unfold k0_pay3 k0_pay2
  dsimp only
  rw [shapeCast_a_a1_apply, shapeCast_self]
  refine (reduceFold_lanes reduces_S1536x7168_S1536 _ _ _ _).trans ?_
  unfold rowMax
  congr 1
  funext a k
  exact congrArg (fun z => FloatOps.maximumf a (FloatOps.absf (FloatOps.extf .f32 bitsLt_bf16_f32 (x z)))) (pair_eq_ix2 _ _)

/-- The block's scales. -/
theorem scales_eq (x : Vec F S1536x7168 .bf16) : out0_2 x = scales (k0_pay3 x) := by
  unfold_out out0_2
  rw [View.canon_unit_zero hz, View.ld_unit_zero hz]
  rfl

/-- The block's codes. -/
theorem codes_eq (x : Vec F S1536x7168 .bf16) : out0_1 x = fun i => codeOf (k0_pay3 x (ix2 (i 0 : Fin 1536) (0 : Fin 1))) (x i) := by
  unfold_out out0_1
  rw [View.canon_unit_zero hz, View.ld_unit_zero hz]
  funext i
  show FloatOps.truncf .fp8e4m3 _ (FloatOps.minimumf _ (FloatOps.maximumf _ (FloatOps.mulf (k0_pay2 x i)
    (broadcastTo S1536x7168 (factors (k0_pay3 x)) broadcasts_S1536x1_S1536x7168 i)))) = _
  have hb : broadcastTo S1536x7168 (factors (k0_pay3 x)) broadcasts_S1536x1_S1536x7168 i
      = factorOf (k0_pay3 x (ix2 (i 0 : Fin 1536) (0 : Fin 1))) :=
    (broadcastTo_apply (factors (k0_pay3 x)) broadcasts_S1536x1_S1536x7168 i (ix2 (i 0 : Fin 1536) (0 : Fin 1))
      fun a => by match a with | ⟨0, _⟩ => rfl | ⟨1, _⟩ => rfl).trans (factors_apply _ _)
  have hx : k0_pay2 x i = FloatOps.extf .f32 bitsLt_bf16_f32 (x i) := by
    unfold k0_pay2
    rw [shapeCast_self]
    rfl
  rw [hb, hx]
  rfl

/-- The array the region finds is the argument, its rows in one line. -/
theorem V_main_v0 (c : Dev nD) : V m c main_v0
    = shapeCast S1536x7168 (m ((c : Thread nD τ).loc main_arg0)) shapeCasts_S2x768x7168_S1536x7168 := by
  unfold V hostOps0
  after_results
  rfl

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])

/-- The largest magnitude of a block's row is that of the array's row. -/
theorem rowMax_iblk (c : Dev nD) (t : Fin cfg0.N) (i : S1536x1.Idx) (r : Fin 1536) (hr : (r : Nat) = (i 0 : Nat)) :
    k0_pay3 (iblk m c 0 t) i = rowMax fun k => V m c main_v0 (ix2 r k) := by
  refine (max_apply _ _).trans (congrArg rowMax (funext fun k => ?_))
  blk_simp [iblk]
  congr 1
  blk_ext [idx0 t, hr]

/-- Every code of the array. -/
theorem final1 (c : Dev nD) : (dats m 0 c).arrAt 1 cfg0.N = arrayCodes (V m c main_v0) := by
  refine (dats m 0 c).arrAt_eq_of_covers 1 _ (by decide +kernel) fun t hf y => ?_
  blk_simp
  rw [after0_1, codes_eq]
  unfold arrayCodes
  refine congrArg₂ codeOf (rowMax_iblk m c t _ _ ?_) ?_
  · blk_simp [idx1 t]
  · blk_simp [iblk]
    congr 1
    blk_ext [idx0 t, idx1 t]

/-- Every scale of the array. -/
theorem final2 (c : Dev nD) : (dats m 0 c).arrAt 2 cfg0.N = arrayScales (V m c main_v0) := by
  refine (dats m 0 c).arrAt_eq_of_covers 2 _ (by decide +kernel) fun t hf y => ?_
  blk_simp
  rw [after0_2, scales_eq, scales_apply]
  unfold arrayScales
  refine congrArg scaleOf (rowMax_iblk m c t _ _ ?_)
  blk_simp [idx2 t]

/-- The run, its two results as functions of the argument. -/
theorem run : θ_run defs (onTc (τ := τ) (main (F := F))) ⟨m, fun _ => 0, ρ⟩ fun r => ∀ c : Dev nD,
      r.2.mem ((c : Thread nD τ).loc main_v1_0) = arrayCodes (shapeCast S1536x7168 (m ((c : Thread nD τ).loc main_arg0)) shapeCasts_S2x768x7168_S1536x7168)
      ∧ r.2.mem ((c : Thread nD τ).loc main_v1_1) = arrayScales (shapeCast S1536x7168 (m ((c : Thread nD τ).loc main_arg0)) shapeCasts_S2x768x7168_S1536x7168)
      ∧ r.2.mem ((c : Thread nD τ).loc main_arg0) = m ((c : Thread nD τ).loc main_arg0) :=
  (θ_run defs _ _).mono (fun r h c => ⟨((h c).1 1).trans ((final1 m c).trans (congrArg _ (V_main_v0 m c))),
      ((h c).1 2).trans ((final2 m c).trans (congrArg _ (V_main_v0 m c))),
      ((h c).2 main_arg0 (Pipeline.mem_restRefs_of main_arg0 (by decide) (by decide))).trans (V_main_arg0 m c)⟩)
    (run_main m ρ)

end Cert.Proof.Whole

end
-- ==== Proof.QuantiseEqual.lean ====
/-
  THE QUANTISER AND ITS REFERENCE: from the same argument, both runs leave the same codes and the same scales, bit for bit.
-/
module

public import proofs.«01_k».proof.Proof.QuantiseTiles
public import proofs.«01_k».proof.Proof.QuantiseWhole
public import proofs.«01_k».proof.Defs

@[expose] public section

noncomputable section

namespace Cert.Proof

open Idealize.ShloMosaic Idealize.ShloMosaic.TcCoe

/-- The quantiser's two results are the reference's. -/
theorem quantise_equal : Cert.bitexact_Quantise_QuantiseReference (hQuantise := Cert.Quantise.Gen.facts)
    (hQuantiseReference := Cert.QuantiseReference.Gen.facts) := fun m g m' g' _ h =>
  ⟨fun c => Row.arrayCodes (shapeCast _ (m ((c.tc : Thread Cert.Quantise.nD Cert.Quantise.τ).loc Cert.Quantise.main_arg0)) Cert.Quantise.Gen.shapeCasts_S2x768x7168_S1536x7168),
    fun c => Row.arrayScales (shapeCast _ (m ((c.tc : Thread Cert.Quantise.nD Cert.Quantise.τ).loc Cert.Quantise.main_arg0)) Cert.Quantise.Gen.shapeCasts_S2x768x7168_S1536x7168),
    Tiles.run m g,
    (θ_run Cert.QuantiseReference.defs _ _).mono (fun r hr c => ⟨by beta_reduce; rw [← h c]; exact (hr c).1, by beta_reduce; rw [← h c]; exact (hr c).2.1, (hr c).2.2⟩) (Whole.run m' g')⟩

end Cert.Proof

end
-- ==== Proof.Linear.lean ====
/-
  THE LINEAR LAYER ON ITS INDICES, over the extended reals: the integer a nibble of a packed byte stands for, the weight at a
  position, and the layer's result at a row and a column. Stated for any number `N` of columns, so that a block of 256 columns
  and the whole array are read by the same formula.
-/
module

public import Idealize.ShloMosaic.Lib.ValueIdx
public import Idealize.ShloMosaic.PureOps.Ideal

@[expose] public section

noncomputable section

namespace Cert.Proof

open Idealize.ShloMosaic
open Idealize.ShloMosaic.ValueIdx (ix2)

/-- A byte's low nibble (`h = 0`) or its high one. -/
def nibble (b : BitVec 8) (h : Nat) : BitVec 4 :=
  if h = 0 then (b.setWidth 32).setWidth 4 else ((b.setWidth 32).sshiftRight 4).setWidth 4

/-- Position `q` of the contraction at column `n`: nibble `q % 2` of byte `q / 2` of the column's row, as a signed integer. -/
def weight {N : Nat} (w : Vec Ideal ⟨2, ![N, 3584]⟩ .i8) (q : Fin 7168) (n : Fin N) : EReal :=
  (((nibble (w (ix2 n ⟨q / 2, by omega⟩)) (q % 2)).toInt : ℝ) : EReal)

/-- Position `k` of group `g`. -/
def pos (g : Fin 56) (k : Fin 128) : Fin 7168 := ⟨128 * g + k, by omega⟩

/-- One group's product of row `r` and column `n`. -/
def groupDot {N : Nat} (codes : Vec Ideal ⟨2, ![1536, 7168]⟩ .fp8e4m3) (w : Vec Ideal ⟨2, ![N, 3584]⟩ .i8) (r : Fin 1536) (n : Fin N)
    (g : Fin 56) : EReal :=
  ∑ k : Fin 128, codes (ix2 r (pos g k)) * weight w (pos g k) n

/-- The layer's result at row `r` and column `n`: the groups' products, each times its scale, summed; times the row's scale;
    plus the column's bias. -/
def linearAt {N : Nat} (codes : Vec Ideal ⟨2, ![1536, 7168]⟩ .fp8e4m3) (w : Vec Ideal ⟨2, ![N, 3584]⟩ .i8) (ws : Vec Ideal ⟨2, ![N, 56]⟩ .f32)
    (sc : Vec Ideal ⟨2, ![1536, 1]⟩ .f32) (b : Fin N → EReal) (r : Fin 1536) (n : Fin N) : EReal :=
  (∑ g : Fin 56, groupDot codes w r n g * ws (ix2 n g)) * sc (ix2 r 0) + b n

/-- The layer on whole arrays. -/
def linear (codes : Vec Ideal ⟨2, ![1536, 7168]⟩ .fp8e4m3) (w : Vec Ideal ⟨2, ![10240, 3584]⟩ .i8) (ws : Vec Ideal ⟨2, ![10240, 56]⟩ .f32)
    (sc : Vec Ideal ⟨2, ![1536, 1]⟩ .f32) (b : Vec Ideal ⟨1, ![10240]⟩ .f32) : Vec Ideal ⟨2, ![1536, 10240]⟩ .bf16 := fun i =>
  linearAt codes w ws sc (fun n => b (ValueIdx.ix1 n)) (i 0) (i 1)

/-- The result at a row and a column depends only on that row and that column. -/
theorem linearAt_congr {N N' : Nat} {codes codes' : Vec Ideal ⟨2, ![1536, 7168]⟩ .fp8e4m3} {w : Vec Ideal ⟨2, ![N, 3584]⟩ .i8}
    {w' : Vec Ideal ⟨2, ![N', 3584]⟩ .i8} {ws : Vec Ideal ⟨2, ![N, 56]⟩ .f32} {ws' : Vec Ideal ⟨2, ![N', 56]⟩ .f32}
    {sc sc' : Vec Ideal ⟨2, ![1536, 1]⟩ .f32} {b : Fin N → EReal} {b' : Fin N' → EReal} {r r' : Fin 1536} {n : Fin N} {n' : Fin N'}
    (hc : ∀ k, codes (ix2 r k) = codes' (ix2 r' k)) (hw : ∀ j, w (ix2 n j) = w' (ix2 n' j)) (hs : ∀ g, ws (ix2 n g) = ws' (ix2 n' g))
    (hr : sc (ix2 r 0) = sc' (ix2 r' 0)) (hb : b n = b' n') : linearAt codes w ws sc b r n = linearAt codes' w' ws' sc' b' r' n' := by
  unfold linearAt groupDot weight
  simp only [hc, hw, hs, hr, hb]

end Cert.Proof

end
-- ==== Proof.KernelTrip.lean ====
/-
  ONE TRIP OF THE ROW LOOP: from a block of 128 rows of codes, the unpacked weights and the transposed scales, 56 groups are
  accumulated in turn, and the sum is scaled by rows, the bias added and the result rounded.
-/
module

public import proofs.«01_k».proof.Proof.Linear
public import proofs.«01_k».proof.Proof.Gen.KernelIdeal.Value

@[expose] public section

noncomputable section

namespace Cert.Proof.Kern

open Cert.KernelIdeal Cert.KernelIdeal.Gen
open Idealize.ShloMosaic Idealize.ShloMosaic.TcCoe Idealize.SL.Sem Idealize.ShloMosaic.Tactic

variable {F : FTy → Type} [FloatOps F]

/-- One group added: the product of the codes and the weights, times the group's scales. -/
def step (acc : FVec F S128x256 .f32) (a : Vec F S128x128 .fp8e4m3) (w : Vec F S128x256 .fp8e4m3) (s : Vec F S1x256 .f32) : FVec F S128x256 .f32 :=
  addf acc (mulf (matmul dot_S128x128_S128x256_S128x256_1_0_0_1_n_n none a w (constant S128x256 .f32 0x00000000#32))
    (broadcastTo S128x256 s broadcasts_S1x256_S128x256))

/-- The first `n` groups, accumulated in turn from zero. -/
def accum (a : Fin 56 → Vec F S128x128 .fp8e4m3) (w : Fin 56 → Vec F S128x256 .fp8e4m3) (s : Fin 56 → Vec F S1x256 .f32) :
    (n : Nat) → n ≤ 56 → FVec F S128x256 .f32
  | 0, _ => broadcast S128x256 (Scalar.ofBits .f32 0x00000000#32)
  | n + 1, h => step (accum a w s n (Nat.le_of_succ_le h)) (a ⟨n, h⟩) (w ⟨n, h⟩) (s ⟨n, h⟩)

/-- The accumulated groups scaled by rows, the bias added, rounded. -/
def finish (acc : FVec F S128x256 .f32) (xs : Vec F S128x1 .f32) (b : Vec F S1x256 .f32) : FVec F S128x256 .bf16 :=
  truncf .bf16 (addf (mulf acc (broadcastTo S128x256 xs broadcasts_S128x1_S128x256))
    (broadcastTo S128x256 (shapeCast S1x256 b shapeCasts_S1x256_S1x256) broadcasts_S1x256_S128x256)) bitsLt_bf16_f32

theorem rows_inb (k : Fin k0_t1_loop.trips) (g : Fin 56) :
    ∀ a, (![k0_off1 k 0, 128 * (g : Nat)] : Fin 2 → Nat) a + S128x128.size a ≤ S1536x7168.size a := by
  have h := k0_off1_inb k 0
  intro a
  match a with
  | ⟨0, _⟩ => exact h
  | ⟨1, _⟩ => show 128 * (g : Nat) + 128 ≤ 7168; omega

theorem group_inb (g : Fin 56) : ∀ a, (![128 * (g : Nat), 0] : Fin 2 → Nat) a + S128x256.size a ≤ S7168x256.size a := by
  intro a
  match a with
  | ⟨0, _⟩ => show 128 * (g : Nat) + 128 ≤ 7168; omega
  | ⟨1, _⟩ => show 0 + 256 ≤ 256; omega

theorem scale_inb (g : Fin 56) : ∀ a, (![(g : Nat), 0] : Fin 2 → Nat) a + S1x256.size a ≤ S56x256.size a := by
  intro a
  match a with
  | ⟨0, _⟩ => show (g : Nat) + 1 ≤ 56; omega
  | ⟨1, _⟩ => show 0 + 256 ≤ 256; omega

variable (𝒱 : Variants) (c : Dev nD) (bd : Option 𝒱.V) (i : grid0.Coords) (arg1 : Memref sig .tc .vmem S1536x7168 .fp8e4m3) (harg1 : arg1.IsWhole) (arg2 : Memref sig .tc .vmem S256x3584 .i8) (harg2 : arg2.IsWhole) (arg3 : Memref sig .tc .vmem S256x56 .f32) (harg3 : arg3.IsWhole) (arg4 : Memref sig .tc .vmem S1536x1 .f32) (harg4 : arg4.IsWhole) (arg5 : Memref sig .tc .vmem S1x256 .f32) (harg5 : arg5.IsWhole) (arg6 : Memref sig .tc .vmem S1536x256 .bf16) (harg6 : arg6.IsWhole) (arg7 : Memref sig .tc .vmem S7168x256 .fp8e4m3) (harg7 : arg7.IsWhole) (arg8 : Memref sig .tc .vmem S56x256 .f32) (harg8 : arg8.IsWhole) (X_arg1 : BufTy.Contents (Elt F) arg1.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty)

set_option maxRecDepth 16384 in
/-- The trip's one stored piece. -/
theorem trip_eq (k : Fin k0_t1_loop.trips) :
    tripL_k0_t1 𝒱 c bd i arg1 harg1 arg2 harg2 arg3 harg3 arg4 harg4 arg5 harg5 arg6 harg6 arg7 harg7 arg8 harg8 X_arg1 X_arg4 X_arg5 X_arg7 X_arg8 k
      = [⟨Rect.unit (k0_off58 k) S128x256.size (k0_off58_inb k),
          finish (accum (fun g => arg1.view.readAt (Elt F) (Rect.unit (s := S1536x7168) ![k0_off1 k 0, 128 * (g : Nat)] S128x128.size (rows_inb k g)).toLoadRect X_arg1)
            (fun g => arg7.view.readAt (Elt F) (Rect.unit (s := S7168x256) ![128 * (g : Nat), 0] S128x256.size (group_inb g)).toLoadRect X_arg7)
            (fun g => arg8.view.readAt (Elt F) (Rect.unit (s := S56x256) ![(g : Nat), 0] S1x256.size (scale_inb g)).toLoadRect X_arg8) 56 le_rfl)
            (arg4.view.readAt (Elt F) (Rect.unit (s := S1536x1) (k0_off57 k) S128x1.size (k0_off57_inb k)).toLoadRect X_arg4)
            (arg5.view.readAt (Elt F) (Rect.unit (s := S1x256) ![0, 0] S1x256.size inb_S1x256_S1x256_0_0).toLoadRect X_arg5)⟩] := by
  unfold tripL_k0_t1 trip_k0_t1
  rfl

end Cert.Proof.Kern

end
-- ==== Proof.KernelRun.lean ====
/-
  THE PIECES ONE GRID POINT STORES: the 28 unpacked chunks of the weights put into the scratch, one under the other, and the
  row loop's pieces over them.
-/
module

public import proofs.«01_k».proof.Proof.KernelTrip

@[expose] public section

noncomputable section

namespace Cert.Proof.Kern

open Cert.KernelIdeal Cert.KernelIdeal.Gen
open Idealize.ShloMosaic Idealize.ShloMosaic.TcCoe Idealize.SL.Sem Idealize.ShloMosaic.Tactic

variable {F : FTy → Type} [FloatOps F]

theorem chunk_inb (n : Nat) (h : n < 28) : ∀ a, (![256 * n, 0] : Fin 2 → Nat) a + S256x256.size a ≤ S7168x256.size a := by
  intro a
  match a with
  | ⟨0, _⟩ => show 256 * n + 256 ≤ 7168; omega
  | ⟨1, _⟩ => show 0 + 256 ≤ 256; omega

theorem bytes_inb (n : Nat) (h : n < 28) : ∀ a, (![0, 128 * n] : Fin 2 → Nat) a + S256x128.size a ≤ S256x3584.size a := by
  intro a
  match a with
  | ⟨0, _⟩ => show 0 + 256 ≤ 256; omega
  | ⟨1, _⟩ => show 128 * n + 128 ≤ 3584; omega

/-- The first `n` unpacked chunks as stored pieces, the last one first. -/
def chunks (arg2 : Memref sig .tc .vmem S256x3584 .i8) (X : BufTy.Contents (Elt F) arg2.view.ty) :
    (n : Nat) → n ≤ 28 → List (View.Piece (Elt F) S7168x256 .fp8e4m3)
  | 0, _ => []
  | n + 1, h => ⟨Rect.unit (s := S7168x256) ![256 * n, 0] S256x256.size (chunk_inb n h),
      k0_pay24 (arg2.view.readAt (Elt F) (Rect.unit (s := S256x3584) ![0, 128 * n] S256x128.size (bytes_inb n h)).toLoadRect X)⟩
    :: chunks arg2 X n (Nat.le_of_succ_le h)

variable (c : Dev nD) (i : grid0.Coords) (arg1 : Memref sig .tc .vmem S1536x7168 .fp8e4m3) (harg1 : arg1.IsWhole) (arg2 : Memref sig .tc .vmem S256x3584 .i8) (harg2 : arg2.IsWhole) (arg3 : Memref sig .tc .vmem S256x56 .f32) (harg3 : arg3.IsWhole) (arg4 : Memref sig .tc .vmem S1536x1 .f32) (harg4 : arg4.IsWhole) (arg5 : Memref sig .tc .vmem S1x256 .f32) (harg5 : arg5.IsWhole) (arg6 : Memref sig .tc .vmem S1536x256 .bf16) (harg6 : arg6.IsWhole) (arg7 : Memref sig .tc .vmem S7168x256 .fp8e4m3) (harg7 : arg7.IsWhole) (arg8 : Memref sig .tc .vmem S56x256 .f32) (harg8 : arg8.IsWhole)
  (x0 : Vec F S1536x7168 .fp8e4m3) (x1 : Vec F S256x3584 .i8) (x2 : Vec F S256x56 .f32) (x3 : Vec F S1536x1 .f32) (x4 : Vec F S1x256 .f32)

/-- The unpacked weights as the scratch holds them. -/
def unpacked : BufTy.Contents (Elt F) arg7.view.ty :=
  arg7.view.writes (Elt F) arg7.view.junk (chunks arg2 (harg2.unread x1) 28 le_rfl)

/-- The transposed weight scales as the scratch holds them. -/
def turned : BufTy.Contents (Elt F) arg8.view.ty :=
  arg8.view.writes (Elt F) arg8.view.junk [⟨Rect.unit (s := S56x256) ![0, 0] S56x256.size inb_S56x256_S56x256_0_0,
    k0_pay2 (arg3.view.readAt (Elt F) (Rect.unit (s := S256x56) ![0, 0] S256x56.size inb_S256x56_S256x56_0_0).toLoadRect (harg3.unread x2))⟩]

set_option maxRecDepth 16384 in
/-- The run's pieces are the row loop's over the two scratches. -/
theorem run_eq : (kernelRun0_A c i arg1 harg1 arg2 harg2 arg3 harg3 arg4 harg4 arg5 harg5 arg6 harg6 arg7 harg7 arg8 harg8 x0 x1 x2 x3 x4).1
    = pb_k0_t1 Variants.none c none i arg1 harg1 arg2 harg2 arg3 harg3 arg4 harg4 arg5 harg5 arg6 harg6 arg7 harg7 arg8 harg8
        (harg1.unread x0) (harg4.unread x3) (harg5.unread x4) (unpacked arg2 harg2 arg7 x1) (turned arg3 harg3 arg8 x2) k0_t1_loop.trips := by
  unfold kernelRun0_A unpacked turned
  rfl

end Cert.Proof.Kern

end
-- ==== Proof.KernelUnpack.lean ====
/-
  ONE UNPACKED CHUNK: 128 packed bytes of 256 columns become 256 positions of 256 columns, position `q` from nibble `q % 2` of
  byte `q / 2`.
-/
module

public import proofs.«01_k».proof.Proof.Linear
public import proofs.«01_k».proof.Proof.Gen.KernelIdeal.Value
public import Idealize.ShloMosaic.Lib.ValueLayout

@[expose] public section

noncomputable section

namespace Cert.Proof.Kern

open Cert.KernelIdeal Cert.KernelIdeal.Gen
open Idealize.ShloMosaic
open Idealize.ShloMosaic.TcCoe Idealize.SL.Sem
open Idealize.ShloMosaic.ValueIdx

/-- The unpacked chunk at position `q` and column `n`. -/
theorem unpack_apply (v : Vec Ideal S256x128 .i8) (q n : Fin 256) :
    k0_pay24 v (ix2 q n) = (((nibble (v (ix2 n ⟨q / 2, by omega⟩)) (q % 2)).toInt : ℝ) : EReal) := by
  have hq : q.val / 2 < 128 := by omega
  unfold k0_pay24
  dsimp only
  rw [shapeCast_self]
  refine congrArg (fun z : BitVec 4 => ((z.toInt : ℝ) : EReal)) ?_
  rw [shapeCast_apply _ shapeCasts_S128x2x256_S256x256 (ix2 q n) (ix3 (⟨q / 2, hq⟩ : Fin 128) (⟨q % 2, by omega⟩ : Fin 2) n) (by
    rw [Shape.rowMajor_val_three, Shape.rowMajor_val_two]
    show ((q : Nat) / 2 * 2 + (q : Nat) % 2) * 256 + n = q * 256 + n
    omega)]
  have hu (x : IVec S128x256 4) : shapeCast S128x1x256 x shapeCasts_S128x256_S128x1x256 (ix3 (⟨q / 2, hq⟩ : Fin 128) (0 : Fin 1) n)
      = x (ix2 (⟨q / 2, hq⟩ : Fin 128) n) := shapeCast_apply _ _ _ _ (by
    rw [Shape.rowMajor_val_three, Shape.rowMajor_val_two]
    show (q : Nat) / 2 * 256 + n = ((q : Nat) / 2 * 1 + 0) * 256 + n
    omega)
  have ht : transpose S128x256 [1, 0] v transposes_S256x128_p1_0_S128x256 (ix2 (⟨q / 2, hq⟩ : Fin 128) n) = v (ix2 n ⟨q / 2, hq⟩) :=
    transpose_ix2_apply v _ _ _
  unfold nibble
  by_cases h : q.val % 2 = 0
  · rw [if_pos h, concatenate_pair_apply_left (t := S128x2x256) (s₁ := S128x1x256) (s₂ := S128x1x256) (1 : Fin 3) _ _ concatenates_S128x1x256_S128x1x256_S128x2x256_d1 _ rfl
      (ix3 (⟨q / 2, hq⟩ : Fin 128) (0 : Fin 1) n) (by intro b; match b with | ⟨0, _⟩ => rfl | ⟨1, _⟩ => exact h.symm | ⟨2, _⟩ => rfl), hu, ← ht]
    rfl
  · have h1 : q.val % 2 = 1 := by omega
    rw [if_neg h, concatenate_pair_apply_right (t := S128x2x256) (s₁ := S128x1x256) (s₂ := S128x1x256) (1 : Fin 3) _ _ concatenates_S128x1x256_S128x1x256_S128x2x256_d1
      (ix3 (⟨q / 2, hq⟩ : Fin 128) (⟨q % 2, by omega⟩ : Fin 2) n) rfl rfl
      (ix3 (⟨q / 2, hq⟩ : Fin 128) (0 : Fin 1) n)
      (by intro b hb; match b with | ⟨0, _⟩ => rfl | ⟨1, _⟩ => exact absurd rfl hb | ⟨2, _⟩ => rfl) (show 0 + 1 = (q : Nat) % 2 by omega), hu, ← ht]
    rfl

end Cert.Proof.Kern

end
-- ==== Proof.KernelScratch.lean ====
/-
  WHAT THE TWO SCRATCHES HOLD: the unpacked weights, positions by columns, and the weights' scales turned, groups by columns.
-/
module

public import proofs.«01_k».proof.Proof.KernelRun
public import proofs.«01_k».proof.Proof.KernelUnpack
public import Idealize.ShloMosaic.Lib.Pipeline.ValueKit.Tiles

@[expose] public section

noncomputable section

namespace Cert.Proof.Kern

open Cert.KernelIdeal Cert.KernelIdeal.Gen
open Idealize.ShloMosaic Idealize.ShloMosaic.TcCoe Idealize.SL.Sem
open Idealize.ShloMosaic.ValueIdx

/-- The weights as the scratch holds them. -/
def weights (x1 : Vec Ideal S256x3584 .i8) : Vec Ideal S7168x256 .fp8e4m3 := fun y => weight x1 (y 0) (y 1)

theorem chunk_apply (arg2 : Memref sig .tc .vmem S256x3584 .i8) (X : BufTy.Contents (Elt Ideal) arg2.view.ty) (x1 : Vec Ideal S256x3584 .i8)
    (hX : arg2.view.read (Elt Ideal) X = x1) (n : Nat) (h : n < 28) (x : S256x256.Idx) :
    k0_pay24 (arg2.view.readAt (Elt Ideal) (Rect.unit (s := S256x3584) ![0, 128 * n] S256x128.size (bytes_inb n h)).toLoadRect X) x
      = weights x1 ((Rect.unit (s := S7168x256) ![256 * n, 0] S256x256.size (chunk_inb n h)).emb x) := by
  obtain ⟨q, k, rfl⟩ : ∃ q k : Fin 256, x = ix2 q k := ⟨x 0, x 1, eq_ix2 x⟩
  rw [unpack_apply]
  have e0 : ((Rect.unit (s := S7168x256) ![256 * n, 0] S256x256.size (chunk_inb n h)).emb (ix2 q k) 0 : Nat) = 256 * n + 1 * q := Rect.emb_apply _ _ _
  have e1 : ((Rect.unit (s := S7168x256) ![256 * n, 0] S256x256.size (chunk_inb n h)).emb (ix2 q k) 1 : Nat) = 0 + 1 * k := Rect.emb_apply _ _ _
  unfold weights weight
  refine congrArg (fun z : BitVec 4 => ((z.toInt : ℝ) : EReal)) (congrArg₂ nibble ?_ ?_)
  · rw [View.readAt_eq_ld, hX]
    refine View.ld_unit_apply_of _ _ _ _ _ _ fun a => ?_
    match a with
    | ⟨0, _⟩ => exact e1.trans (by show 0 + 1 * (k : Nat) = 0 + k; omega)
    | ⟨1, _⟩ =>
      show ((Rect.unit (s := S7168x256) ![256 * n, 0] S256x256.size (chunk_inb n h)).emb (ix2 q k) 0 : Nat) / 2 = 128 * n + (q : Nat) / 2
      rw [e0]; omega
  · rw [e0]; omega

theorem chunks_apply (arg2 : Memref sig .tc .vmem S256x3584 .i8) (X : BufTy.Contents (Elt Ideal) arg2.view.ty) (x1 : Vec Ideal S256x3584 .i8)
    (hX : arg2.view.read (Elt Ideal) X = x1) : ∀ (n : Nat) (h : n ≤ 28), ∀ p ∈ chunks arg2 X n h, ∀ x : p.1.shape.Idx, p.2 x = weights x1 (p.1.emb x)
  | 0, _, _, hp => absurd hp List.not_mem_nil
  | n + 1, h, p, hp => by
    rcases List.mem_cons.mp hp with rfl | hp'
    · exact fun x => chunk_apply arg2 X x1 hX n h x
    · exact chunks_apply arg2 X x1 hX n _ p hp'

theorem chunks_cover (arg2 : Memref sig .tc .vmem S256x3584 .i8) (X : BufTy.Contents (Elt Ideal) arg2.view.ty) (y : S7168x256.Idx) :
    ∀ (n : Nat) (h : n ≤ 28), (y 0 : Nat) < 256 * n → ∃ p ∈ chunks arg2 X n h, y ∈ p.1.set
  | 0, _, hy => absurd hy (by omega)
  | n + 1, h, hy => by
    by_cases hn : (y 0 : Nat) < 256 * n
    · obtain ⟨p, hp, hm⟩ := chunks_cover arg2 X y n (Nat.le_of_succ_le h) hn
      exact ⟨p, List.mem_cons_of_mem _ hp, hm⟩
    · refine ⟨_, List.mem_cons_self, (Rect.mem_set_unit (inb := chunk_inb n h)).mpr fun a => ?_⟩
      match a with
      | ⟨0, _⟩ => exact ⟨Nat.le_of_not_lt hn, hy⟩
      | ⟨1, _⟩ => exact ⟨Nat.zero_le _, by have := (y 1).isLt; show (y 1 : Nat) < 0 + 256; rw [Nat.zero_add]; exact this⟩

/-- The weights' scratch. -/
theorem unpacked_read (arg2 : Memref sig .tc .vmem S256x3584 .i8) (harg2 : arg2.IsWhole) (arg7 : Memref sig .tc .vmem S7168x256 .fp8e4m3)
    (x1 : Vec Ideal S256x3584 .i8) : arg7.view.read (Elt Ideal) (unpacked arg2 harg2 arg7 x1) = weights x1 := by
  have hc (y : S7168x256.Idx) : ∃ p ∈ chunks arg2 (harg2.unread x1) 28 le_rfl, y ∈ p.1.set := chunks_cover arg2 _ y 28 le_rfl (y 0).isLt
  unfold unpacked
  rw [View.read_writes_eq_canon _ _ _ hc]
  exact funext fun y => View.canon_apply_of_pieces (weights x1) _ (chunks_apply arg2 _ x1 (harg2.read_unread _) 28 le_rfl) y (hc y)

theorem hz : (![0, 0] : Fin 2 → Nat) = fun _ => 0 := by
  funext a; match a with | ⟨0, _⟩ => rfl | ⟨1, _⟩ => rfl

theorem whole_cover (w : Vec Ideal S56x256 .f32) (y : S56x256.Idx) :
    ∃ p ∈ [(⟨Rect.unit (s := S56x256) ![0, 0] S56x256.size inb_S56x256_S56x256_0_0, w⟩ : View.Piece (Elt Ideal) S56x256 .f32)], y ∈ p.1.set := by
  refine ⟨_, List.mem_singleton_self _, (Rect.mem_set_unit (inb := inb_S56x256_S56x256_0_0)).mpr fun a => ?_⟩
  match a with
  | ⟨0, _⟩ => exact ⟨Nat.zero_le _, by have := (y 0).isLt; show (y 0 : Nat) < 0 + 56; rw [Nat.zero_add]; exact this⟩
  | ⟨1, _⟩ => exact ⟨Nat.zero_le _, by have := (y 1).isLt; show (y 1 : Nat) < 0 + 256; rw [Nat.zero_add]; exact this⟩

/-- The scales' scratch at group `g` and column `n`. -/
theorem turned_read (arg3 : Memref sig .tc .vmem S256x56 .f32) (harg3 : arg3.IsWhole) (arg8 : Memref sig .tc .vmem S56x256 .f32)
    (x2 : Vec Ideal S256x56 .f32) (g : Fin 56) (n : Fin 256) :
    arg8.view.read (Elt Ideal) (turned arg3 harg3 arg8 x2) (ix2 g n) = x2 (ix2 n g) := by
  unfold turned
  rw [View.read_writes_eq_canon _ _ _ (whole_cover _), View.canon_unit_zero (S := S56x256) hz, View.readAt_eq_ld, harg3.read_unread, View.ld_unit_zero (S := S256x56) hz]
  unfold k0_pay2
  dsimp only
  try rw [shapeCast_self]
  exact transpose_ix2_apply x2 _ _ _

end Cert.Proof.Kern

end
-- ==== Proof.KernelGroups.lean ====
/-
  ONE TRIP'S RESULT ON ITS INDICES, over the extended reals: the 56 groups accumulated in turn are a sum over the groups.
-/
module

public import proofs.«01_k».proof.Proof.KernelTrip
public import Idealize.ShloMosaic.Lib.MatmulPlain
public import Idealize.ShloMosaic.Lib.ValueLayout

@[expose] public section

noncomputable section

namespace Cert.Proof.Kern

open Cert.KernelIdeal Cert.KernelIdeal.Gen
open Idealize.ShloMosaic Idealize.ShloMosaic.TcCoe Idealize.SL.Sem
open Idealize.ShloMosaic.ValueIdx

/-- The added group at row `r` and column `n`. -/
theorem step_apply (acc : FVec Ideal S128x256 .f32) (a : Vec Ideal S128x128 .fp8e4m3) (w : Vec Ideal S128x256 .fp8e4m3) (s : Vec Ideal S1x256 .f32)
    (r : Fin 128) (n : Fin 256) :
    step acc a w s (ix2 r n) = acc (ix2 r n) + (∑ k : Fin 128, a (ix2 r k) * w (ix2 k n)) * s (ix2 (0 : Fin 1) n) := by
  have hd : FloatOps.matmul (F := Ideal) (φ₁ := .fp8e4m3) (φ₂ := .fp8e4m3) dot_S128x128_S128x256_S128x256_1_0_0_1_n_n none a w (constant S128x256 .f32 0x00000000#32) (ix2 r n)
      = ∑ k : Fin 128, a (ix2 r k) * w (ix2 k n) := by
    refine (Ideal.matmul_plain_apply (M := 128) (K := 128) (N := 256) none a w _ r n).trans ?_
    show (FloatOps.ofBits (F := Ideal) .f32 0x00000000#32 : EReal) + _ = _
    rw [show (FloatOps.ofBits (F := Ideal) .f32 0x00000000#32 : EReal) = 0 from by simp]
    exact zero_add _
  have hs : broadcastTo S128x256 s broadcasts_S1x256_S128x256 (ix2 r n) = s (ix2 (0 : Fin 1) n) := broadcastTo_1b_ab_apply _ _ _ _
  show acc (ix2 r n) + FloatOps.matmul (F := Ideal) (φ₁ := .fp8e4m3) (φ₂ := .fp8e4m3) dot_S128x128_S128x256_S128x256_1_0_0_1_n_n none a w (constant S128x256 .f32 0x00000000#32) (ix2 r n)
    * broadcastTo S128x256 s broadcasts_S1x256_S128x256 (ix2 r n) = _
  rw [hd, hs]

/-- The first `m` groups at row `r` and column `n`. -/
theorem accum_apply (a : Fin 56 → Vec Ideal S128x128 .fp8e4m3) (w : Fin 56 → Vec Ideal S128x256 .fp8e4m3) (s : Fin 56 → Vec Ideal S1x256 .f32)
    (r : Fin 128) (n : Fin 256) : ∀ (m : Nat) (h : m ≤ 56), accum a w s m h (ix2 r n)
      = ∑ g : Fin m, (∑ k : Fin 128, a (g.castLE h) (ix2 r k) * w (g.castLE h) (ix2 k n)) * s (g.castLE h) (ix2 (0 : Fin 1) n)
  | 0, _ => by
    show (FloatOps.ofBits (F := Ideal) .f32 0x00000000#32 : EReal) = _
    simp
  | m + 1, h => by
    rw [Fin.sum_univ_castSucc]
    unfold accum
    rw [step_apply, accum_apply a w s r n m (Nat.le_of_succ_le h)]
    rfl

/-- The finished block at row `r` and column `n`. -/
theorem finish_apply (acc : FVec Ideal S128x256 .f32) (xs : Vec Ideal S128x1 .f32) (b : Vec Ideal S1x256 .f32) (r : Fin 128) (n : Fin 256) :
    finish acc xs b (ix2 r n) = acc (ix2 r n) * xs (ix2 r (0 : Fin 1)) + b (ix2 (0 : Fin 1) n) := by
  unfold finish
  rw [shapeCast_self]
  have hx : broadcastTo S128x256 xs broadcasts_S128x1_S128x256 (ix2 r n) = xs (ix2 r (0 : Fin 1)) :=
    broadcastTo_apply _ _ _ _ fun a => by match a with | ⟨0, _⟩ => rfl | ⟨1, _⟩ => rfl
  have hb : broadcastTo S128x256 b broadcasts_S1x256_S128x256 (ix2 r n) = b (ix2 (0 : Fin 1) n) := broadcastTo_1b_ab_apply _ _ _ _
  show acc (ix2 r n) * broadcastTo S128x256 xs broadcasts_S128x1_S128x256 (ix2 r n) + broadcastTo S128x256 b broadcasts_S1x256_S128x256 (ix2 r n) = _
  rw [hx, hb]

end Cert.Proof.Kern

end
-- ==== Proof.KernelBlock.lean ====
/-
  WHAT ONE BLOCK COMPUTES: the layer's result at all 1536 rows and the block's 256 columns.
-/
module

public import proofs.«01_k».proof.Proof.KernelScratch
public import proofs.«01_k».proof.Proof.KernelGroups

@[expose] public section

noncomputable section

namespace Cert.Proof.Kern

open Cert.KernelIdeal Cert.KernelIdeal.Gen
open Idealize.ShloMosaic Idealize.ShloMosaic.TcCoe Idealize.SL.Sem
open Idealize.ShloMosaic.ValueIdx

/-- The block's result. -/
def block (x0 : Vec Ideal S1536x7168 .fp8e4m3) (x1 : Vec Ideal S256x3584 .i8) (x2 : Vec Ideal S256x56 .f32) (x3 : Vec Ideal S1536x1 .f32)
    (x4 : Vec Ideal S1x256 .f32) : Vec Ideal S1536x256 .bf16 := fun y =>
  linearAt x0 x1 x2 x3 (fun n => x4 (ix2 (0 : Fin 1) n)) (y 0) (y 1)

/-- One trip's payload from what its loads hold. -/
theorem trip_apply (x0 : Vec Ideal S1536x7168 .fp8e4m3) (x1 : Vec Ideal S256x3584 .i8) (x2 : Vec Ideal S256x56 .f32) (x3 : Vec Ideal S1536x1 .f32)
    (x4 : Vec Ideal S1x256 .f32) (a : Fin 56 → Vec Ideal S128x128 .fp8e4m3) (w : Fin 56 → Vec Ideal S128x256 .fp8e4m3)
    (s : Fin 56 → Vec Ideal S1x256 .f32) (xs : Vec Ideal S128x1 .f32) (b : Vec Ideal S1x256 .f32) (R : Fin 1536) (r : Fin 128) (n : Fin 256)
    (ha : ∀ g k, a g (ix2 r k) = x0 (ix2 R (pos g k))) (hw : ∀ g k, w g (ix2 k n) = weight x1 (pos g k) n)
    (hs : ∀ g, s g (ix2 (0 : Fin 1) n) = x2 (ix2 n g)) (hx : xs (ix2 r (0 : Fin 1)) = x3 (ix2 R (0 : Fin 1)))
    (hb : b (ix2 (0 : Fin 1) n) = x4 (ix2 (0 : Fin 1) n)) :
    finish (accum a w s 56 le_rfl) xs b (ix2 r n) = block x0 x1 x2 x3 x4 (ix2 R n) := by
  rw [finish_apply, accum_apply, hx, hb]
  show _ = (∑ g : Fin 56, groupDot x0 x1 R n g * x2 (ix2 n g)) * x3 (ix2 R 0) + x4 (ix2 0 n)
  refine congrArg (fun z => z * x3 (ix2 R 0) + x4 (ix2 0 n)) (Finset.sum_congr rfl fun g _ => ?_)
  show (∑ k : Fin 128, a g (ix2 r k) * w g (ix2 k n)) * s g (ix2 0 n) = _
  rw [hs]
  refine congrArg (· * x2 (ix2 n g)) (Finset.sum_congr rfl fun k _ => ?_)
  rw [ha, hw]

variable (c : Dev nD) (i : grid0.Coords) (arg1 : Memref sig .tc .vmem S1536x7168 .fp8e4m3) (harg1 : arg1.IsWhole) (arg2 : Memref sig .tc .vmem S256x3584 .i8) (harg2 : arg2.IsWhole) (arg3 : Memref sig .tc .vmem S256x56 .f32) (harg3 : arg3.IsWhole) (arg4 : Memref sig .tc .vmem S1536x1 .f32) (harg4 : arg4.IsWhole) (arg5 : Memref sig .tc .vmem S1x256 .f32) (harg5 : arg5.IsWhole) (arg6 : Memref sig .tc .vmem S1536x256 .bf16) (harg6 : arg6.IsWhole) (arg7 : Memref sig .tc .vmem S7168x256 .fp8e4m3) (harg7 : arg7.IsWhole) (arg8 : Memref sig .tc .vmem S56x256 .f32) (harg8 : arg8.IsWhole)
  (x0 : Vec Ideal S1536x7168 .fp8e4m3) (x1 : Vec Ideal S256x3584 .i8) (x2 : Vec Ideal S256x56 .f32) (x3 : Vec Ideal S1536x1 .f32) (x4 : Vec Ideal S1x256 .f32)

/-- The pieces of the first `n` trips are the block's result. -/
theorem trips_apply : ∀ (n : Nat), n ≤ k0_t1_loop.trips →
    ∀ p ∈ pb_k0_t1 Variants.none c none i arg1 harg1 arg2 harg2 arg3 harg3 arg4 harg4 arg5 harg5 arg6 harg6 arg7 harg7 arg8 harg8
        (harg1.unread x0) (harg4.unread x3) (harg5.unread x4) (unpacked arg2 harg2 arg7 x1) (turned arg3 harg3 arg8 x2) n,
      ∀ x : p.1.shape.Idx, p.2 x = block x0 x1 x2 x3 x4 (p.1.emb x)
  | 0, _, _, hp => absurd hp List.not_mem_nil
  | n + 1, h, p, hp => by
    rw [show n + 1 = (⟨n, h⟩ : Fin k0_t1_loop.trips).val + 1 from rfl, pb_k0_t1_succ, trip_eq] at hp
    rcases List.mem_cons.mp hp with rfl | hp'
    · intro x
      have hn : n < 12 := Nat.lt_of_lt_of_le h k0_t1_abs.2.1
      obtain ⟨r, m, rfl⟩ : ∃ (r : Fin 128) (m : Fin 256), x = ix2 r m := ⟨x 0, x 1, eq_ix2 x⟩
      have o1 : k0_off1 ⟨n, h⟩ 0 = 128 * n := by rw [k0_off1_eq]; rfl
      have o57 : k0_off57 ⟨n, h⟩ = ![128 * n, 0] := k0_off57_eq _
      have o58 : k0_off58 ⟨n, h⟩ = ![128 * n, 0] := k0_off58_eq _
      have he : (Rect.unit (s := S1536x256) (k0_off58 ⟨n, h⟩) S128x256.size (k0_off58_inb ⟨n, h⟩)).emb (ix2 r m)
          = (ix2 (⟨128 * n + r, by omega⟩ : Fin 1536) m : S1536x256.Idx) := by
        funext a
        refine Fin.ext ((Rect.emb_apply _ _ _).trans ?_)
        match a with
        | ⟨0, _⟩ => show k0_off58 ⟨n, h⟩ 0 + 1 * (r : Nat) = 128 * n + r; rw [o58]; show 128 * n + 1 * (r : Nat) = _; omega
        | ⟨1, _⟩ => show k0_off58 ⟨n, h⟩ 1 + 1 * (m : Nat) = m; rw [o58]; show 0 + 1 * (m : Nat) = _; omega
      show finish (F := Ideal) _ _ _ (ix2 r m) = block x0 x1 x2 x3 x4 ((Rect.unit (s := S1536x256) (k0_off58 ⟨n, h⟩) S128x256.size (k0_off58_inb ⟨n, h⟩)).emb (ix2 r m))
      rw [he]
      refine trip_apply x0 x1 x2 x3 x4 _ _ _ _ _ _ r m ?_ ?_ ?_ ?_ ?_
      · intro g k
        rw [View.readAt_eq_ld, harg1.read_unread]
        refine View.ld_unit_apply_of _ _ _ _ _ _ fun a => ?_
        match a with
        | ⟨0, _⟩ => show 128 * n + (r : Nat) = k0_off1 ⟨n, h⟩ 0 + r; rw [o1]
        | ⟨1, _⟩ => rfl
      · intro g k
        rw [View.readAt_eq_ld, unpacked_read]
        refine (View.ld_unit_apply_of _ _ _ _ _ (ix2 (pos g k) m) fun a => ?_).trans rfl
        match a with
        | ⟨0, _⟩ => rfl
        | ⟨1, _⟩ => show (m : Nat) = 0 + m; omega
      · intro g
        rw [View.readAt_eq_ld]
        refine (View.ld_unit_apply_of _ _ _ _ _ (ix2 g m) fun a => ?_).trans (turned_read arg3 harg3 arg8 x2 g m)
        match a with
        | ⟨0, _⟩ => rfl
        | ⟨1, _⟩ => show (m : Nat) = 0 + m; omega
      · rw [View.readAt_eq_ld, harg4.read_unread]
        refine View.ld_unit_apply_of _ _ _ _ _ _ fun a => ?_
        match a with
        | ⟨0, _⟩ => show 128 * n + (r : Nat) = k0_off57 ⟨n, h⟩ 0 + r; rw [o57]; rfl
        | ⟨1, _⟩ => show 0 = k0_off57 ⟨n, h⟩ 1 + 0; rw [o57]; rfl
      · rw [View.readAt_eq_ld, harg5.read_unread, View.ld_unit_zero (S := S1x256) hz]
    · exact trips_apply n (Nat.le_of_succ_le h) p hp'

/-- What the block's staging buffer is left holding. -/
theorem out_eq : out0_A_5 c i arg1 harg1 arg2 harg2 arg3 harg3 arg4 harg4 arg5 harg5 arg6 harg6 arg7 harg7 arg8 harg8 x0 x1 x2 x3 x4
    = block x0 x1 x2 x3 x4 := by
  have hc := cover0_A_5 c i arg1 harg1 arg2 harg2 arg3 harg3 arg4 harg4 arg5 harg5 arg6 harg6 arg7 harg7 arg8 harg8 x0 x1 x2 x3 x4
  unfold out0_A_5
  rw [View.read_writes_eq_canon _ _ _ hc]
  refine funext fun y => View.canon_apply_of_pieces (block x0 x1 x2 x3 x4) _ ?_ y (hc y)
  rw [run_eq]
  exact trips_apply c i arg1 harg1 arg2 harg2 arg3 harg3 arg4 harg4 arg5 harg5 arg6 harg6 arg7 harg7 arg8 harg8 x0 x1 x2 x3 x4 _ le_rfl

end Cert.Proof.Kern

end
-- ==== Proof.KernelArray.lean ====
/-
  WHAT THE KERNEL'S ARRAY HOLDS after the 40 blocks: the layer's result, as `Linear.lean` writes it, of the kernel's own arguments.
-/
module

public import proofs.«01_k».proof.Proof.KernelBlock
public import Idealize.ShloMosaic.Lib.Pipeline.ValueKit

@[expose] public section

noncomputable section

namespace Cert.Proof.Kern

open Cert.KernelIdeal Cert.KernelIdeal.Gen
open Idealize.ShloMosaic hiding ix2 eq_ix2 ix1
open Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The bias as the region finds it. -/
theorem V_main_v0 (c : Dev nD) : V m c main_v0 = shapeCast S1x10240 (m ((c : Thread nD τ).loc main_arg4)) shapeCasts_S10240_S1x10240 := by
  unfold V hostOps0
  after_results
  rfl

theorem idx0 : ∀ t : Fin cfg0.N, win0_0.index t = ![0, 0] := (by decide +kernel : ∀ t : Fin grid0.N, win0_0.index t = ![0, 0])
theorem idx1 : ∀ t : Fin cfg0.N, win0_1.index t = ![(t : Nat), 0] := (by decide +kernel : ∀ t : Fin grid0.N, win0_1.index t = ![(t : Nat), 0])
theorem idx2 : ∀ t : Fin cfg0.N, win0_2.index t = ![(t : Nat), 0] := (by decide +kernel : ∀ t : Fin grid0.N, win0_2.index t = ![(t : Nat), 0])
theorem idx3 : ∀ t : Fin cfg0.N, win0_3.index t = ![0, 0] := (by decide +kernel : ∀ t : Fin grid0.N, win0_3.index t = ![0, 0])
theorem idx4 : ∀ t : Fin cfg0.N, win0_4.index t = ![0, (t : Nat)] := (by decide +kernel : ∀ t : Fin grid0.N, win0_4.index t = ![0, (t : Nat)])
theorem idx5 : ∀ t : Fin cfg0.N, win0_5.index t = ![0, (t : Nat)] := (by decide +kernel : ∀ t : Fin grid0.N, win0_5.index t = ![0, (t : Nat)])

/-- Every element of the result. -/
theorem final5 (c : Dev nD) : (dats m 0 c).arrAt 5 cfg0.N
    = linear (V m c main_arg0) (V m c main_arg1) (V m c main_arg2) (V m c main_arg3) (m ((c : Thread nD τ).loc main_arg4)) := by
  refine (dats m 0 c).arrAt_eq_of_covers 5 _ (by decide +kernel) fun t hf y => ?_
  blk_simp
  rw [after0_5]
  unfold outsAt0
  rw [out_eq]
  unfold block linear
  refine linearAt_congr (fun k => ?_) (fun j => ?_) (fun g => ?_) ?_ ?_
  · blk_simp [iblk]
    congr 1
    blk_ext [idx0 t]
    show (y 0 : Nat) = ((win0_5.blk t).view.emb y 0 : Nat)
    blk_simp [idx5 t]
  · blk_simp [iblk]
    congr 1
    blk_ext [idx1 t]
    show (t : Nat) * 256 + (y 1 : Nat) = ((win0_5.blk t).view.emb y 1 : Nat)
    blk_simp [idx5 t]
  · blk_simp [iblk]
    congr 1
    blk_ext [idx2 t]
    show (t : Nat) * 256 + (y 1 : Nat) = ((win0_5.blk t).view.emb y 1 : Nat)
    blk_simp [idx5 t]
  · blk_simp [iblk]
    congr 1
    blk_ext [idx3 t]
    show (y 0 : Nat) = ((win0_5.blk t).view.emb y 0 : Nat)
    blk_simp [idx5 t]
  · blk_simp [iblk]
    show V m c main_v0 _ = _
    rw [V_main_v0]
    refine shapeCast_apply _ _ _ _ ?_
    show ((⟨1, ![10240]⟩ : Shape).rowMajor (ix1 ((win0_5.blk t).view.emb y 1)) : Nat)
      = ((⟨2, ![1, 10240]⟩ : Shape).rowMajor ((win0_4.blk t).view.emb (ix2 0 (y 1))) : Nat)
    rw [Shape.rowMajor_val_one, Shape.rowMajor_val_two]
    show ((win0_5.blk t).view.emb y 1 : Nat) = ((win0_4.blk t).view.emb (ix2 0 (y 1)) 0 : Nat) * 10240 + ((win0_4.blk t).view.emb (ix2 0 (y 1)) 1 : Nat)
    blk_simp [idx4 t, idx5 t]
    rfl

/-- The run, its result as a function of the arguments. -/
theorem run : θ_run defs (onTc (τ := τ) (main (F := Ideal))) ⟨m, fun _ => 0, ρ⟩ fun r => ∀ c : Dev nD,
      r.2.mem ((c : Thread nD τ).loc main_v1) = linear (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨by
    rw [(h c).1, final5, V_main_arg0, V_main_arg1, V_main_arg2, V_main_arg3], (h c).2⟩) (Cert.KernelIdeal.Value.run_blocks m ρ)

end Cert.Proof.Kern

end
-- ==== Proof.ReferenceBody.lean ====
/-
  WHAT THE REFERENCE'S BODY COMPUTES at a row and a column, over the extended reals, from the unpacked weights.
-/
module

public import proofs.«01_k».proof.Proof.Linear
public import proofs.«01_k».proof.Proof.Gen.ReferenceIdeal.Value
public import Idealize.ShloMosaic.Lib.MatmulPlain
public import Idealize.ShloMosaic.Lib.ValueLayout

@[expose] public section

noncomputable section

namespace Cert.Proof.Ref

open Cert.ReferenceIdeal Cert.ReferenceIdeal.Gen
open Idealize.ShloMosaic Idealize.ShloMosaic.TcCoe Idealize.SL.Sem
open Idealize.ShloMosaic.ValueIdx

/-- The groups' products: batched over the group, contracted over the position in it. -/
theorem dot_apply (a : FVec Ideal S1536x56x128 .fp8e4m3) (w : FVec Ideal S10240x56x128 .fp8e4m3) (g : Fin 56) (r : Fin 1536) (n : Fin 10240) :
    FloatOps.matmul (F := Ideal) dot_S1536x56x128_S10240x56x128_S56x1536x10240_2_2_0_0_1_1 none a w (constant S56x1536x10240 .f32 0x00000000#32)
      (ix3 g r n) = ∑ k : Fin 128, a (ix3 r g k) * w (ix3 n g k) := by
  let d := dot_S1536x56x128_S10240x56x128_S56x1536x10240_2_2_0_0_1_1
  let e := contrEquiv1 d 128 rfl rfl
  rw [Ideal.matmul_apply, ← Equiv.sum_comp e.symm]
  show (FloatOps.ofBits (F := Ideal) .f32 0x00000000#32 : EReal) + _ = _
  rw [show (FloatOps.ofBits (F := Ideal) .f32 0x00000000#32 : EReal) = 0 from by simp, zero_add]
  refine Finset.sum_congr rfl fun k _ => ?_
  have hk := contrEquiv1_symm_val d 128 rfl rfl k
  have el : d.lhsIdx (ix3 g r n) (e.symm k) = ix3 r g k := by
    funext a; apply Fin.ext
    match a with
    | ⟨0, _⟩ => rfl
    | ⟨1, _⟩ => rfl
    | ⟨2, _⟩ => exact hk
  have er : d.rhsIdx (ix3 g r n) (e.symm k) = ix3 n g k := by
    funext a; apply Fin.ext
    match a with
    | ⟨0, _⟩ => rfl
    | ⟨1, _⟩ => rfl
    | ⟨2, _⟩ => exact hk
  show a (d.lhsIdx (ix3 g r n) (e.symm k)) * w (d.rhsIdx (ix3 g r n) (e.symm k)) = _
  rw [el, er]

/-- The body's result at row `r` and column `n`. -/
theorem body_apply (w : Vec Ideal S10240x7168 .bf16) (x : Vec Ideal S1536x7168 .fp8e4m3) (ws : Vec Ideal S10240x56 .f32)
    (sc : Vec Ideal S1536x1 .f32) (b : Vec Ideal S1x10240 .f32) (r : Fin 1536) (n : Fin 10240) :
    k0_pay1 w x ws sc b (ix2 r n)
      = (∑ g : Fin 56, (∑ k : Fin 128, x (ix2 r (pos g k)) * w (ix2 n (pos g k))) * ws (ix2 n g)) * sc (ix2 r (0 : Fin 1))
        + b (ix2 (0 : Fin 1) n) := by
  unfold k0_pay1
  dsimp only
  rw [shapeCast_self, shapeCast_self]
  have hb : broadcastTo S1536x10240 b broadcasts_S1x10240_S1536x10240 (ix2 r n) = b (ix2 (0 : Fin 1) n) := broadcastTo_1b_ab_apply _ _ _ _
  have hs : broadcastTo S1536x10240 sc broadcasts_S1536x1_S1536x10240 (ix2 r n) = sc (ix2 r (0 : Fin 1)) :=
    broadcastTo_apply _ _ _ _ fun a => by match a with | ⟨0, _⟩ => rfl | ⟨1, _⟩ => rfl
  rw [← hb, ← hs]
  refine congrArg (fun z : EReal => z * broadcastTo S1536x10240 sc broadcasts_S1536x1_S1536x10240 (ix2 r n)
    + broadcastTo S1536x10240 b broadcasts_S1x10240_S1536x10240 (ix2 r n)) ?_
  refine (Ideal.multiReduction_add_single _ _ reduces_S56x1536x10240_S1536x10240 _ _ (ix2 r n)).trans ?_
  refine Finset.sum_congr rfl fun (g : Fin 56) _ => ?_
  have hl : reduces_S56x1536x10240_S1536x10240.lift (ix2 r n) g = ix3 g r n := by
    funext a; apply Fin.ext
    match a with
    | ⟨0, _⟩ => rfl
    | ⟨1, _⟩ => rfl
    | ⟨2, _⟩ => rfl
  rw [hl]
  have hw : broadcastTo S56x1536x10240 (shapeCast S56x1x10240 (transpose S56x10240 [1, 0] ws transposes_S10240x56_p1_0_S56x10240)
      shapeCasts_S56x10240_S56x1x10240) broadcasts_S56x1x10240_S56x1536x10240 (ix3 g r n) = ws (ix2 n g) := by
    refine (broadcastTo_apply _ _ (ix3 g r n) (ix3 g (0 : Fin 1) n) fun a => by match a with | ⟨0, _⟩ => rfl | ⟨1, _⟩ => rfl | ⟨2, _⟩ => rfl).trans ?_
    refine (shapeCast_apply _ _ _ (ix2 g n) ?_).trans (transpose_ix2_apply ws _ _ _)
    rw [Shape.rowMajor_val_three, Shape.rowMajor_val_two]
    show (g : Nat) * 10240 + n = ((g : Nat) * 1 + 0) * 10240 + n
    omega
  have hx (k : Fin 128) : shapeCast S1536x56x128 x shapeCasts_S1536x7168_S1536x56x128 (ix3 r g k) = x (ix2 r (pos g k)) :=
    shapeCast_apply _ _ _ _ (by
      rw [Shape.rowMajor_val_three, Shape.rowMajor_val_two]
      show (r : Nat) * 7168 + (128 * (g : Nat) + k) = ((r : Nat) * 56 + g) * 128 + k
      omega)
  have hv (k : Fin 128) : shapeCast S10240x56x128 w shapeCasts_S10240x7168_S10240x56x128 (ix3 n g k) = w (ix2 n (pos g k)) :=
    shapeCast_apply _ _ _ _ (by
      rw [Shape.rowMajor_val_three, Shape.rowMajor_val_two]
      show (n : Nat) * 7168 + (128 * (g : Nat) + k) = ((n : Nat) * 56 + g) * 128 + k
      omega)
  refine congrArg₂ (fun p q : EReal => p * q) ?_ hw
  refine (dot_apply _ _ g r n).trans (Finset.sum_congr rfl fun k _ => congrArg₂ (fun p q : EReal => p * q) (hx k) (hv k))

end Cert.Proof.Ref

end
-- ==== Proof.ReferenceUnpack.lean ====
/-
  WHAT THE REFERENCE'S HOST LINES UNPACK: low nibble, high nibble, each as a signed integer, in turn.
-/
module

public import proofs.«01_k».proof.Proof.Linear
public import proofs.«01_k».proof.Proof.Gen.ReferenceIdeal.Value
public import Idealize.ShloMosaic.Lib.Pipeline.ValueKit

@[expose] public section

noncomputable section

namespace Cert.Proof.Ref

open Cert.ReferenceIdeal Cert.ReferenceIdeal.Gen
open Idealize.ShloMosaic hiding ix2 eq_ix2 ix1 ix3
open Idealize.ShloMosaic.TcCoe Idealize.SL.Sem
open Idealize.ShloMosaic.ValueIdx

variable (m : (ℓ : Loc nD τ sig) → Buf (Elt Ideal) ℓ)

/-- A nibble held in a word, from 0 to 15, as a signed integer. -/
def signed (z : IVec S10240x3584 32) : IVec S10240x3584 32 :=
  select (cmpi .sge z (broadcastInDim S10240x3584 ![] bcast_S_S10240x3584 (constantI S_ 32 8#32)))
    (subi z (broadcastInDim S10240x3584 ![] bcast_S_S10240x3584 (constantI S_ 32 16#32))) z

/-- A byte's low nibble. -/
def low (w : IVec S10240x3584 8) : IVec S10240x3584 32 :=
  andi (extui 32 w natLt_8_32) (broadcastInDim S10240x3584 ![] bcast_S_S10240x3584 (constantI S_ 32 15#32))

/-- A byte's high nibble. -/
def high (w : IVec S10240x3584 8) : IVec S10240x3584 32 :=
  andi (Host.shrsi (extui 32 w natLt_8_32) (broadcastInDim S10240x3584 ![] bcast_S_S10240x3584 (constantI S_ 32 4#32)))
    (broadcastInDim S10240x3584 ![] bcast_S_S10240x3584 (constantI S_ 32 15#32))

/-- The unpacked weights as the region finds them. -/
theorem V_main_v21 (c : Dev nD) : V m c main_v21 = sitofp (F := Ideal) .bf16 (shapeCast S10240x7168
    (concatenate S10240x3584x2 2
      [⟨S10240x3584x1, broadcastInDim S10240x3584x1 ![0, 1] bcast_S10240x3584_S10240x3584x1_0_1 (signed (low (m ((c : Thread nD τ).loc main_arg1))))⟩,
       ⟨S10240x3584x1, broadcastInDim S10240x3584x1 ![0, 1] bcast_S10240x3584_S10240x3584x1_0_1 (signed (high (m ((c : Thread nD τ).loc main_arg1))))⟩]
      concatenates_S10240x3584x1_S10240x3584x1_S10240x3584x2_d2) shapeCasts_S10240x3584x2_S10240x7168) := by
  unfold V hostOps0 hostOps0_1 hostOps0_2 hostOps0_3 hostOps0_4
  after_results
  rfl

/-- The bias as the region finds it. -/
theorem V_main_v22 (c : Dev nD) : V m c main_v22 = shapeCast S1x10240 (m ((c : Thread nD τ).loc main_arg4)) shapeCasts_S10240_S1x10240 := by
  unfold V hostOps0 hostOps0_1 hostOps0_2 hostOps0_3 hostOps0_4
  after_results
  rfl

/-- A nibble in a word as a signed integer, one word. -/
def signedWord (z : BitVec 32) : BitVec 32 := Scalar.select (IntOp.cmpi .sge z 8#32) (IntOp.subi z 16#32) z

theorem low_byte : ∀ b : BitVec 8, (signedWord (IntOp.andi (b.setWidth 32) 15#32)).toInt = (nibble b 0).toInt := by decide +kernel

theorem high_byte : ∀ b : BitVec 8, (signedWord (IntOp.andi (IntOp.shrsi .host (b.setWidth 32) 4#32) 15#32)).toInt = (nibble b 1).toInt := by
  decide +kernel

/-- The unpacked weights at column `n` and position `q`. -/
theorem unpacked_apply (c : Dev nD) (n : Fin 10240) (q : Fin 7168) :
    V m c main_v21 (ix2 n q) = weight (m ((c : Thread nD τ).loc main_arg1)) q n := by
  have hq : q.val / 2 < 3584 := by omega
  rw [V_main_v21]
  unfold weight
  refine congrArg (fun z : Int => ((z : ℝ) : EReal)) ?_
  rw [shapeCast_apply _ shapeCasts_S10240x3584x2_S10240x7168 (ix2 n q) (ix3 n (⟨q / 2, hq⟩ : Fin 3584) (⟨q % 2, by omega⟩ : Fin 2)) (by
    rw [Shape.rowMajor_val_three, Shape.rowMajor_val_two]
    show ((n : Nat) * 3584 + (q : Nat) / 2) * 2 + (q : Nat) % 2 = n * 7168 + q
    omega)]
  have hu (x : IVec S10240x3584 32) : broadcastInDim S10240x3584x1 ![0, 1] bcast_S10240x3584_S10240x3584x1_0_1 x
      (ix3 n (⟨q / 2, hq⟩ : Fin 3584) (0 : Fin 1)) = x (ix2 n ⟨q / 2, hq⟩) :=
    broadcastInDim_apply _ _ _ _ _ fun a => by match a with | ⟨0, _⟩ => rfl | ⟨1, _⟩ => rfl
  by_cases h : q.val % 2 = 0
  · rw [concatenate_pair_apply_left (t := S10240x3584x2) (s₁ := S10240x3584x1) (s₂ := S10240x3584x1) (2 : Fin 3) _ _
      concatenates_S10240x3584x1_S10240x3584x1_S10240x3584x2_d2 (ix3 n (⟨q / 2, hq⟩ : Fin 3584) (⟨q % 2, by omega⟩ : Fin 2)) rfl
      (ix3 n (⟨q / 2, hq⟩ : Fin 3584) (0 : Fin 1))
      (by intro b; match b with | ⟨0, _⟩ => rfl | ⟨1, _⟩ => rfl | ⟨2, _⟩ => exact h.symm), hu]
    rw [h]
    exact low_byte _
  · have h1 : q.val % 2 = 1 := by omega
    rw [concatenate_pair_apply_right (t := S10240x3584x2) (s₁ := S10240x3584x1) (s₂ := S10240x3584x1) (2 : Fin 3) _ _
      concatenates_S10240x3584x1_S10240x3584x1_S10240x3584x2_d2 (ix3 n (⟨q / 2, hq⟩ : Fin 3584) (⟨q % 2, by omega⟩ : Fin 2)) rfl rfl
      (ix3 n (⟨q / 2, hq⟩ : Fin 3584) (0 : Fin 1))
      (by intro b hb; match b with | ⟨0, _⟩ => rfl | ⟨1, _⟩ => rfl | ⟨2, _⟩ => exact absurd rfl hb) (show 0 + 1 = (q : Nat) % 2 by omega), hu]
    rw [h1]
    exact high_byte _

/-- The bias at column `n`. -/
theorem bias_apply (c : Dev nD) (n : Fin 10240) : V m c main_v22 (ix2 (0 : Fin 1) n) = m ((c : Thread nD τ).loc main_arg4) (ix1 n) := by
  rw [V_main_v22]
  refine shapeCast_apply _ _ _ _ ?_
  show ((⟨1, ![10240]⟩ : Shape).rowMajor (ix1 n) : Nat) = ((⟨2, ![1, 10240]⟩ : Shape).rowMajor (ix2 (0 : Fin 1) n) : Nat)
  rw [Shape.rowMajor_val_one, Shape.rowMajor_val_two]
  show (n : Nat) = 0 * 10240 + n
  omega

end Cert.Proof.Ref

end
-- ==== Proof.ReferenceArray.lean ====
/-
  WHAT THE REFERENCE'S ARRAY HOLDS: the layer's result, as `Linear.lean` writes it, of the reference's own arguments.
-/
module

public import proofs.«01_k».proof.Proof.ReferenceBody
public import proofs.«01_k».proof.Proof.ReferenceUnpack

@[expose] public section

noncomputable section

namespace Cert.Proof.Ref

open Cert.ReferenceIdeal Cert.ReferenceIdeal.Gen
open Idealize.ShloMosaic hiding ix2 eq_ix2 ix1 ix3
open Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := by
  funext a; match a with | ⟨0, _⟩ => rfl | ⟨1, _⟩ => rfl

/-- What the staging buffer is left holding. -/
theorem out_eq (x0 : Vec Ideal S1536x7168 .fp8e4m3) (x1 : Vec Ideal S10240x7168 .bf16) (x2 : Vec Ideal S10240x56 .f32)
    (x3 : Vec Ideal S1536x1 .f32) (x4 : Vec Ideal S1x10240 .f32) : out0_5 x0 x1 x2 x3 x4 = k0_pay1 x1 x0 x2 x3 x4 := by
  unfold out0_5
  rw [View.canon_unit_zero (S := S1536x10240) hz, View.ld_unit_zero (S := S1536x7168) hz, View.ld_unit_zero (S := S10240x7168) hz,
    View.ld_unit_zero (S := S10240x56) hz, View.ld_unit_zero (S := S1536x1) hz, View.ld_unit_zero (S := S1x10240) hz]

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])

theorem blk0 (c : Dev nD) (t : Fin cfg0.N) (r : Fin 1536) (q : Fin 7168) : iblk m c 0 t (ix2 r q) = V m c main_arg0 (ix2 r q) := by
  blk_simp [iblk]
  congr 1
  blk_ext [idx0 t]
theorem blk1 (c : Dev nD) (t : Fin cfg0.N) (n : Fin 10240) (q : Fin 7168) : iblk m c 1 t (ix2 n q) = V m c main_v21 (ix2 n q) := by
  blk_simp [iblk]
  congr 1
  blk_ext [idx1 t]
theorem blk2 (c : Dev nD) (t : Fin cfg0.N) (n : Fin 10240) (g : Fin 56) : iblk m c 2 t (ix2 n g) = V m c main_arg2 (ix2 n g) := by
  blk_simp [iblk]
  congr 1
  blk_ext [idx2 t]
theorem blk3 (c : Dev nD) (t : Fin cfg0.N) (r : Fin 1536) : iblk m c 3 t (ix2 r (0 : Fin 1)) = V m c main_arg3 (ix2 r (0 : Fin 1)) := by
  blk_simp [iblk]
  congr 1
  blk_ext [idx3 t]
theorem blk4 (c : Dev nD) (t : Fin cfg0.N) (n : Fin 10240) : iblk m c 4 t (ix2 (0 : Fin 1) n) = V m c main_v22 (ix2 (0 : Fin 1) n) := by
  blk_simp [iblk]
  congr 1
  blk_ext [idx4 t]

/-- The body's value, when its blocks are the arguments, is the layer's. -/
theorem value_apply (x0 a0 : Vec Ideal S1536x7168 .fp8e4m3) (x1 : Vec Ideal S10240x7168 .bf16) (a1 : Vec Ideal S10240x3584 .i8)
    (x2 a2 : Vec Ideal S10240x56 .f32) (x3 a3 : Vec Ideal S1536x1 .f32) (x4 : Vec Ideal S1x10240 .f32) (a4 : Vec Ideal S10240 .f32)
    (r : Fin 1536) (n : Fin 10240) (e0 : ∀ q, x0 (ix2 r q) = a0 (ix2 r q)) (e1 : ∀ q, x1 (ix2 n q) = weight a1 q n)
    (e2 : ∀ g, x2 (ix2 n g) = a2 (ix2 n g)) (e3 : x3 (ix2 r (0 : Fin 1)) = a3 (ix2 r (0 : Fin 1))) (e4 : x4 (ix2 (0 : Fin 1) n) = a4 (ix1 n)) :
    k0_pay1 x1 x0 x2 x3 x4 (ix2 r n) = linear a0 a1 a2 a3 a4 (ix2 r n) := by
  rw [body_apply, e3, e4]
  show _ = (∑ g : Fin 56, groupDot a0 a1 r n g * a2 (ix2 n g)) * a3 (ix2 r (0 : Fin 1)) + a4 (ix1 n)
  refine congrArg (fun p : EReal => p * a3 (ix2 r (0 : Fin 1)) + a4 (ix1 n)) (Finset.sum_congr rfl fun g _ => ?_)
  rw [e2]
  refine congrArg (fun p : EReal => p * a2 (ix2 n g)) (Finset.sum_congr rfl fun k _ => ?_)
  rw [e0, e1]

/-- Every element of the result. -/
theorem final5 (c : Dev nD) : (dats m 0 c).arrAt 5 cfg0.N
    = linear (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, out_eq]
  obtain ⟨r, n, rfl⟩ : ∃ (r : Fin 1536) (n : Fin 10240), y = ix2 r n := ⟨y 0, y 1, eq_ix2 y⟩
  have he : (win0_5.blk t).view.emb (ix2 r n) = (ix2 r n : S1536x10240.Idx) := by
    blk_ext [idx5 t]
  rw [he]
  refine value_apply _ _ _ _ _ _ _ _ _ _ r n (fun q => ?_) (fun q => ?_) (fun g => ?_) ?_ ?_
  · rw [blk0, V_main_arg0]
  · rw [blk1, unpacked_apply]
  · rw [blk2, V_main_arg2]
  · rw [blk3, V_main_arg3]
  · rw [blk4, bias_apply]

/-- The run, its result as a function of the arguments. -/
theorem run : θ_run defs (onTc (τ := τ) (main (F := Ideal))) ⟨m, fun _ => 0, ρ⟩ fun r => ∀ c : Dev nD,
      r.2.mem ((c : Thread nD τ).loc main_v23) = linear (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨by rw [(h c).1, final5], (h c).2⟩) (Cert.ReferenceIdeal.Value.run_blocks m ρ)

end Cert.Proof.Ref

end
-- ==== Proof.LinearEqual.lean ====
/-
  THE GROUPED PRODUCT AND ITS REFERENCE: from the same codes, packed weights, scales and bias, both runs leave the same result
  over the extended reals.
-/
module

public import proofs.«01_k».proof.Proof.KernelArray
public import proofs.«01_k».proof.Proof.ReferenceArray
public import proofs.«01_k».proof.Defs

@[expose] public section

noncomputable section

namespace Cert.Proof

open Idealize.ShloMosaic Idealize.ShloMosaic.TcCoe

/-- The second call's result is the linear layer's. -/
theorem linear_equal : Cert.algebraic_KernelIdeal_ReferenceIdeal (hKernelIdeal := Cert.KernelIdeal.Gen.facts)
    (hReferenceIdeal := Cert.ReferenceIdeal.Gen.facts) := fun m g m' g' _ h =>
  ⟨fun c => linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Kern.run m g,
    (θ_run Cert.ReferenceIdeal.defs _ _).mono (fun r hr c => ⟨by
      obtain ⟨h0, h1, h2, h3, h4⟩ := h c
      beta_reduce
      rw [← h0, ← h1, ← h2, ← h3, ← h4]
      exact (hr c).1, (hr c).2⟩) (Ref.run m' g')⟩

end Cert.Proof

end
-- ==== Proof.lean ====
module

public import proofs.«01_k».proof.Defs
public import proofs.«01_k».proof.Proof.Gen.Whole
public import proofs.«01_k».proof.Proof.Gen.Whole.Skeleton
public import proofs.«01_k».proof.Proof.Gen.Whole.Loops
public import proofs.«01_k».proof.Proof.Gen.Whole.Launch
public import proofs.«01_k».proof.Proof.Gen.Whole.Points
public import proofs.«01_k».proof.Proof.Gen.Whole.Frame
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.QuantiseReference
public import proofs.«01_k».proof.Proof.Gen.QuantiseReference.Skeleton
public import proofs.«01_k».proof.Proof.Gen.QuantiseReference.Launch
public import proofs.«01_k».proof.Proof.Gen.QuantiseReference.Points
public import proofs.«01_k».proof.Proof.Gen.QuantiseReference.Frame
public import proofs.«01_k».proof.Proof.Gen.KernelIdeal.Value
public import proofs.«01_k».proof.Proof.Gen.ReferenceIdeal.Value
public import proofs.«01_k».proof.Proof.Gen.Quantise.Value
public import proofs.«01_k».proof.Proof.QuantiseEqual
public import proofs.«01_k».proof.Proof.LinearEqual
public import Idealize.ShloMosaic.Adequacy
public import Idealize.ShloMosaic.Init

@[expose] public section

noncomputable section

namespace Cert.Proof

open Idealize.ShloMosaic Idealize.SL.Sem Cert.Whole

/-- Every program runs without fault and keeps its arguments; the second call's result is the linear layer's over the extended
    reals; the first call's codes and scales are the quantiser's, bit for bit. -/
theorem claim : Cert.Claim :=
  ⟨Cert.Whole.Gen.facts, Cert.Kernel.Gen.facts, Cert.KernelIdeal.Gen.facts, Cert.ReferenceIdeal.Gen.facts,
    Cert.Quantise.Gen.facts, Cert.QuantiseReference.Gen.facts,
    fun m ρ _ => Cert.Whole.Gen.frame m ρ,
    fun m ρ _ => Cert.Kernel.Gen.frame m ρ,
    fun m ρ _ => Cert.KernelIdeal.Gen.frame m ρ,
    fun m ρ _ => Cert.ReferenceIdeal.Gen.frame m ρ,
    fun m ρ _ => Cert.Quantise.Gen.frame m ρ,
    fun m ρ _ => Cert.QuantiseReference.Gen.frame m ρ,
    trivial,
    linear_equal,
    quantise_equal⟩

end Cert.Proof

end
